-- ==== Defs.lean ====
def Pre_Gather [hPre_rows_in_points : Cert.Pre_rows_in_points.Facts] (m : (ℓ : Loc Cert.Gather.nD Cert.Gather.τ Cert.Gather.sig) → Buf (Elt Bits) ℓ) : Prop :=
  ∀ c : Dev Cert.Gather.nD,
    (Cert.Pre_rows_in_points.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_rows_in_points : Cert.Pre_rows_in_points.Facts] (m : (ℓ : Loc Cert.GatherIdeal.nD Cert.GatherIdeal.τ Cert.GatherIdeal.sig) → Buf (Elt Ideal) ℓ) : Prop :=
  ∀ c : Dev Cert.GatherIdeal.nD,
    (Cert.Pre_rows_in_points.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_GatherRefIdeal (m : (ℓ : Loc Cert.GatherRefIdeal.nD Cert.GatherRefIdeal.τ Cert.GatherRefIdeal.sig) → Buf (Elt Ideal) ℓ) : Prop :=
  True

def Pre_GatherRefIdeal_rows_in_points [hPre_rows_in_points : Cert.Pre_rows_in_points.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_rows_in_points.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1)) (m ((c.tc : Thread Cert.GatherRefIdeal.nD Cert.GatherRefIdeal.τ).loc Cert.GatherRefIdeal.main_arg2))) = (fun _ => 1#1)

def Pre_Fps (m : (ℓ : Loc Cert.Fps.nD Cert.Fps.τ Cert.Fps.sig) → Buf (Elt Bits) ℓ) : Prop :=
  True

def Pre_FpsIdeal (m : (ℓ : Loc Cert.FpsIdeal.nD Cert.FpsIdeal.τ Cert.FpsIdeal.sig) → Buf (Elt Ideal) ℓ) : Prop :=
  True

def Pre_FpsRefIdeal (m : (ℓ : Loc Cert.FpsRefIdeal.nD Cert.FpsRefIdeal.τ Cert.FpsRefIdeal.sig) → Buf (Elt Ideal) ℓ) : Prop :=
  True

def Pre_Knn (m : (ℓ : Loc Cert.Knn.nD Cert.Knn.τ Cert.Knn.sig) → Buf (Elt Bits) ℓ) : Prop :=
  True

def Pre_KnnIdeal (m : (ℓ : Loc Cert.KnnIdeal.nD Cert.KnnIdeal.τ Cert.KnnIdeal.sig) → Buf (Elt Ideal) ℓ) : Prop :=
  True

def Pre_KnnIdeal_points_finite [hPre_points_finite : Cert.Pre_points_finite.Facts] (m : (ℓ : Loc Cert.KnnIdeal.nD Cert.KnnIdeal.τ Cert.KnnIdeal.sig) → Buf (Elt Ideal) ℓ) : Prop :=
  ∀ c : Dev Cert.KnnIdeal.nD,
    (Cert.Pre_points_finite.fn (F := Ideal) (m ((c.tc : Thread Cert.KnnIdeal.nD Cert.KnnIdeal.τ).loc Cert.KnnIdeal.main_arg0)) (m ((c.tc : Thread Cert.KnnIdeal.nD Cert.KnnIdeal.τ).loc Cert.KnnIdeal.main_arg1))) = (fun _ => 1#1)

def Pre_KnnRefIdeal (m : (ℓ : Loc Cert.KnnRefIdeal.nD Cert.KnnRefIdeal.τ Cert.KnnRefIdeal.sig) → Buf (Elt Ideal) ℓ) : Prop :=
  True

def Pre_KnnRefIdeal_points_finite [hPre_points_finite : Cert.Pre_points_finite.Facts] (m : (ℓ : Loc Cert.KnnRefIdeal.nD Cert.KnnRefIdeal.τ Cert.KnnRefIdeal.sig) → Buf (Elt Ideal) ℓ) : Prop :=
  ∀ c : Dev Cert.KnnRefIdeal.nD,
    (Cert.Pre_points_finite.fn (F := Ideal) (m ((c.tc : Thread Cert.KnnRefIdeal.nD Cert.KnnRefIdeal.τ).loc Cert.KnnRefIdeal.main_arg0)) (m ((c.tc : Thread Cert.KnnRefIdeal.nD Cert.KnnRefIdeal.τ).loc Cert.KnnRefIdeal.main_arg1))) = (fun _ => 1#1)

def quiescent_Gather [hGather : Cert.Gather.Facts] [hPre_rows_in_points : Cert.Pre_rows_in_points.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_rows_in_points : Cert.Pre_rows_in_points.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2))
      ∧ r.2.sem = fun _ => 0)

def quiescent_GatherRefIdeal_pre_rows_in_points [hGatherRefIdeal : Cert.GatherRefIdeal.Facts] [hPre_rows_in_points : Cert.Pre_rows_in_points.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal_rows_in_points m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2))
      ∧ r.2.sem = fun _ => 0)

def quiescent_Fps [hFps : Cert.Fps.Facts] : Prop :=
  ∀ (m : (ℓ : Loc Cert.Fps.nD Cert.Fps.τ Cert.Fps.sig) → Buf (Elt Bits) ℓ) (g : Dev Cert.Fps.nD → PrngReg), Pre_Fps m →
    θ_run (Cert.Fps.defs (F := Bits)) (onTc (τ := Cert.Fps.τ) (Cert.Fps.main (F := Bits))) ⟨m, fun _ => 0, g⟩ (fun r => (∀ c : Dev Cert.Fps.nD,
      r.2.mem ((c.tc : Thread Cert.Fps.nD Cert.Fps.τ).loc Cert.Fps.main_arg0) = m ((c.tc : Thread Cert.Fps.nD Cert.Fps.τ).loc Cert.Fps.main_arg0))
      ∧ r.2.sem = fun _ => 0)

def quiescent_FpsIdeal [hFpsIdeal : Cert.FpsIdeal.Facts] : Prop :=
  ∀ (m : (ℓ : Loc Cert.FpsIdeal.nD Cert.FpsIdeal.τ Cert.FpsIdeal.sig) → Buf (Elt Ideal) ℓ) (g : Dev Cert.FpsIdeal.nD → PrngReg), Pre_FpsIdeal m →
    θ_run (Cert.FpsIdeal.defs (F := Ideal)) (onTc (τ := Cert.FpsIdeal.τ) (Cert.FpsIdeal.main (F := Ideal))) ⟨m, fun _ => 0, g⟩ (fun r => (∀ c : Dev Cert.FpsIdeal.nD,
      r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ r.2.sem = fun _ => 0)

def quiescent_FpsRefIdeal [hFpsRefIdeal : Cert.FpsRefIdeal.Facts] : Prop :=
  ∀ (m : (ℓ : Loc Cert.FpsRefIdeal.nD Cert.FpsRefIdeal.τ Cert.FpsRefIdeal.sig) → Buf (Elt Ideal) ℓ) (g : Dev Cert.FpsRefIdeal.nD → PrngReg), Pre_FpsRefIdeal m →
    θ_run (Cert.FpsRefIdeal.defs (F := Ideal)) (onTc (τ := Cert.FpsRefIdeal.τ) (Cert.FpsRefIdeal.main (F := Ideal))) ⟨m, fun _ => 0, g⟩ (fun r => (∀ c : Dev Cert.FpsRefIdeal.nD,
      r.2.mem ((c.tc : Thread Cert.FpsRefIdeal.nD Cert.FpsRefIdeal.τ).loc Cert.FpsRefIdeal.main_arg0) = m ((c.tc : Thread Cert.FpsRefIdeal.nD Cert.FpsRefIdeal.τ).loc Cert.FpsRefIdeal.main_arg0))
      ∧ r.2.sem = fun _ => 0)

def quiescent_Knn [hKnn : Cert.Knn.Facts] : Prop :=
  ∀ (m : (ℓ : Loc Cert.Knn.nD Cert.Knn.τ Cert.Knn.sig) → Buf (Elt Bits) ℓ) (g : Dev Cert.Knn.nD → PrngReg), Pre_Knn m →
    θ_run (Cert.Knn.defs (F := Bits)) (onTc (τ := Cert.Knn.τ) (Cert.Knn.main (F := Bits))) ⟨m, fun _ => 0, g⟩ (fun r => (∀ c : Dev Cert.Knn.nD,
      r.2.mem ((c.tc : Thread Cert.Knn.nD Cert.Knn.τ).loc Cert.Knn.main_arg0) = m ((c.tc : Thread Cert.Knn.nD Cert.Knn.τ).loc Cert.Knn.main_arg0)
      ∧ r.2.mem ((c.tc : Thread Cert.Knn.nD Cert.Knn.τ).loc Cert.Knn.main_arg1) = m ((c.tc : Thread Cert.Knn.nD Cert.Knn.τ).loc Cert.Knn.main_arg1))
      ∧ r.2.sem = fun _ => 0)

def quiescent_KnnIdeal [hKnnIdeal : Cert.KnnIdeal.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
      ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1))
      ∧ r.2.sem = fun _ => 0)

def quiescent_KnnIdeal_pre_points_finite [hKnnIdeal : Cert.KnnIdeal.Facts] [hPre_points_finite : Cert.Pre_points_finite.Facts] : Prop :=
  ∀ (m : (ℓ : Loc Cert.KnnIdeal.nD Cert.KnnIdeal.τ Cert.KnnIdeal.sig) → Buf (Elt Ideal) ℓ) (g : Dev Cert.KnnIdeal.nD → PrngReg), Pre_KnnIdeal_points_finite m →
    θ_run (Cert.KnnIdeal.defs (F := Ideal)) (onTc (τ := Cert.KnnIdeal.τ) (Cert.KnnIdeal.main (F := Ideal))) ⟨m, fun _ => 0, g⟩ (fun r => (∀ c : Dev Cert.KnnIdeal.nD,
      r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
      ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1))
      ∧ r.2.sem = fun _ => 0)

def quiescent_KnnRefIdeal [hKnnRefIdeal : Cert.KnnRefIdeal.Facts] : Prop :=
  ∀ (m : (ℓ : Loc Cert.KnnRefIdeal.nD Cert.KnnRefIdeal.τ Cert.KnnRefIdeal.sig) → Buf (Elt Ideal) ℓ) (g : Dev Cert.KnnRefIdeal.nD → PrngReg), Pre_KnnRefIdeal m →
    θ_run (Cert.KnnRefIdeal.defs (F := Ideal)) (onTc (τ := Cert.KnnRefIdeal.τ) (Cert.KnnRefIdeal.main (F := Ideal))) ⟨m, fun _ => 0, g⟩ (fun r => (∀ c : Dev Cert.KnnRefIdeal.nD,
      r.2.mem ((c.tc : Thread Cert.KnnRefIdeal.nD Cert.KnnRefIdeal.τ).loc Cert.KnnRefIdeal.main_arg0) = m ((c.tc : Thread Cert.KnnRefIdeal.nD Cert.KnnRefIdeal.τ).loc Cert.KnnRefIdeal.main_arg0)
      ∧ r.2.mem ((c.tc : Thread Cert.KnnRefIdeal.nD Cert.KnnRefIdeal.τ).loc Cert.KnnRefIdeal.main_arg1) = m ((c.tc : Thread Cert.KnnRefIdeal.nD Cert.KnnRefIdeal.τ).loc Cert.KnnRefIdeal.main_arg1))
      ∧ r.2.sem = fun _ => 0)

def quiescent_KnnRefIdeal_pre_points_finite [hKnnRefIdeal : Cert.KnnRefIdeal.Facts] [hPre_points_finite : Cert.Pre_points_finite.Facts] : Prop :=
  ∀ (m : (ℓ : Loc Cert.KnnRefIdeal.nD Cert.KnnRefIdeal.τ Cert.KnnRefIdeal.sig) → Buf (Elt Ideal) ℓ) (g : Dev Cert.KnnRefIdeal.nD → PrngReg), Pre_KnnRefIdeal_points_finite m →
    θ_run (Cert.KnnRefIdeal.defs (F := Ideal)) (onTc (τ := Cert.KnnRefIdeal.τ) (Cert.KnnRefIdeal.main (F := Ideal))) ⟨m, fun _ => 0, g⟩ (fun r => (∀ c : Dev Cert.KnnRefIdeal.nD,
      r.2.mem ((c.tc : Thread Cert.KnnRefIdeal.nD Cert.KnnRefIdeal.τ).loc Cert.KnnRefIdeal.main_arg0) = m ((c.tc : Thread Cert.KnnRefIdeal.nD Cert.KnnRefIdeal.τ).loc Cert.KnnRefIdeal.main_arg0)
      ∧ r.2.mem ((c.tc : Thread Cert.KnnRefIdeal.nD Cert.KnnRefIdeal.τ).loc Cert.KnnRefIdeal.main_arg1) = m ((c.tc : Thread Cert.KnnRefIdeal.nD Cert.KnnRefIdeal.τ).loc Cert.KnnRefIdeal.main_arg1))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] [hPre_rows_in_points : Cert.Pre_rows_in_points.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)
      ∧ m' ((c.tc : Thread Cert.GatherRefIdeal.nD Cert.GatherRefIdeal.τ).loc Cert.GatherRefIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v7)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v7) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v10) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1)
          ∧ r.2.mem ((c.tc : Thread Cert.GatherRefIdeal.nD Cert.GatherRefIdeal.τ).loc Cert.GatherRefIdeal.main_arg2) = m' ((c.tc : Thread Cert.GatherRefIdeal.nD Cert.GatherRefIdeal.τ).loc Cert.GatherRefIdeal.main_arg2))

def preserves_Fps_FpsIdeal : Prop :=
  True

def algebraic_FpsIdeal_FpsRefIdeal [hFpsIdeal : Cert.FpsIdeal.Facts] [hFpsRefIdeal : Cert.FpsRefIdeal.Facts] : Prop :=
  ∀ (m : (ℓ : Loc Cert.FpsIdeal.nD Cert.FpsIdeal.τ Cert.FpsIdeal.sig) → Buf (Elt Ideal) ℓ) (g : Dev Cert.FpsIdeal.nD → PrngReg)
    (m' : (ℓ : Loc Cert.FpsRefIdeal.nD Cert.FpsRefIdeal.τ Cert.FpsRefIdeal.sig) → Buf (Elt Ideal) ℓ) (g' : Dev Cert.FpsRefIdeal.nD → PrngReg), Pre_FpsIdeal m →
    (∀ c : Dev Cert.FpsIdeal.nD,
      m' ((c.tc : Thread Cert.FpsRefIdeal.nD Cert.FpsRefIdeal.τ).loc Cert.FpsRefIdeal.main_arg0) = m ((c.tc : Thread Cert.FpsIdeal.nD Cert.FpsIdeal.τ).loc Cert.FpsIdeal.main_arg0)) →
    ∃ (v0 : (c : Dev Cert.FpsIdeal.nD) → Buf (Elt Ideal) ((c.tc : Thread Cert.FpsIdeal.nD Cert.FpsIdeal.τ).loc Cert.FpsIdeal.main_v2)),
      θ_run (Cert.FpsIdeal.defs (F := Ideal)) (onTc (τ := Cert.FpsIdeal.τ) (Cert.FpsIdeal.main (F := Ideal))) ⟨m, fun _ => 0, g⟩ (fun r => ∀ c : Dev Cert.FpsIdeal.nD,
          r.2.mem ((c.tc : Thread Cert.FpsIdeal.nD Cert.FpsIdeal.τ).loc Cert.FpsIdeal.main_v2) = v0 c
          ∧ r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ θ_run (Cert.FpsRefIdeal.defs (F := Ideal)) (onTc (τ := Cert.FpsRefIdeal.τ) (Cert.FpsRefIdeal.main (F := Ideal))) ⟨m', fun _ => 0, g'⟩ (fun r => ∀ c : Dev Cert.FpsRefIdeal.nD,
          r.2.mem ((c.tc : Thread Cert.FpsRefIdeal.nD Cert.FpsRefIdeal.τ).loc Cert.FpsRefIdeal.main_v4) = v0 c
          ∧ r.2.mem ((c.tc : Thread Cert.FpsRefIdeal.nD Cert.FpsRefIdeal.τ).loc Cert.FpsRefIdeal.main_arg0) = m' ((c.tc : Thread Cert.FpsRefIdeal.nD Cert.FpsRefIdeal.τ).loc Cert.FpsRefIdeal.main_arg0))

def preserves_Knn_KnnIdeal : Prop :=
  True

def algebraic_KnnIdeal_KnnRefIdeal_pre_points_finite [hKnnIdeal : Cert.KnnIdeal.Facts] [hKnnRefIdeal : Cert.KnnRefIdeal.Facts] [hPre_points_finite : Cert.Pre_points_finite.Facts] : Prop :=
  ∀ (m : (ℓ : Loc Cert.KnnIdeal.nD Cert.KnnIdeal.τ Cert.KnnIdeal.sig) → Buf (Elt Ideal) ℓ) (g : Dev Cert.KnnIdeal.nD → PrngReg)
    (m' : (ℓ : Loc Cert.KnnRefIdeal.nD Cert.KnnRefIdeal.τ Cert.KnnRefIdeal.sig) → Buf (Elt Ideal) ℓ) (g' : Dev Cert.KnnRefIdeal.nD → PrngReg), Pre_KnnIdeal_points_finite m →
    (∀ c : Dev Cert.KnnIdeal.nD,
      m' ((c.tc : Thread Cert.KnnRefIdeal.nD Cert.KnnRefIdeal.τ).loc Cert.KnnRefIdeal.main_arg0) = m ((c.tc : Thread Cert.KnnIdeal.nD Cert.KnnIdeal.τ).loc Cert.KnnIdeal.main_arg0)
      ∧ m' ((c.tc : Thread Cert.KnnRefIdeal.nD Cert.KnnRefIdeal.τ).loc Cert.KnnRefIdeal.main_arg1) = m ((c.tc : Thread Cert.KnnIdeal.nD Cert.KnnIdeal.τ).loc Cert.KnnIdeal.main_arg1)) →
    ∃ (v0 : (c : Dev Cert.KnnIdeal.nD) → Buf (Elt Ideal) ((c.tc : Thread Cert.KnnIdeal.nD Cert.KnnIdeal.τ).loc Cert.KnnIdeal.main_v1)),
      θ_run (Cert.KnnIdeal.defs (F := Ideal)) (onTc (τ := Cert.KnnIdeal.τ) (Cert.KnnIdeal.main (F := Ideal))) ⟨m, fun _ => 0, g⟩ (fun r => ∀ c : Dev Cert.KnnIdeal.nD,
          r.2.mem ((c.tc : Thread Cert.KnnIdeal.nD Cert.KnnIdeal.τ).loc Cert.KnnIdeal.main_v1) = v0 c
          ∧ r.2.mem ((c.tc : Thread Cert.KnnIdeal.nD Cert.KnnIdeal.τ).loc Cert.KnnIdeal.main_arg0) = m ((c.tc : Thread Cert.KnnIdeal.nD Cert.KnnIdeal.τ).loc Cert.KnnIdeal.main_arg0)
          ∧ r.2.mem ((c.tc : Thread Cert.KnnIdeal.nD Cert.KnnIdeal.τ).loc Cert.KnnIdeal.main_arg1) = m ((c.tc : Thread Cert.KnnIdeal.nD Cert.KnnIdeal.τ).loc Cert.KnnIdeal.main_arg1))
      ∧ θ_run (Cert.KnnRefIdeal.defs (F := Ideal)) (onTc (τ := Cert.KnnRefIdeal.τ) (Cert.KnnRefIdeal.main (F := Ideal))) ⟨m', fun _ => 0, g'⟩ (fun r => ∀ c : Dev Cert.KnnRefIdeal.nD,
          r.2.mem ((c.tc : Thread Cert.KnnRefIdeal.nD Cert.KnnRefIdeal.τ).loc Cert.KnnRefIdeal.main_v19) = v0 c
          ∧ r.2.mem ((c.tc : Thread Cert.KnnRefIdeal.nD Cert.KnnRefIdeal.τ).loc Cert.KnnRefIdeal.main_arg0) = m' ((c.tc : Thread Cert.KnnRefIdeal.nD Cert.KnnRefIdeal.τ).loc Cert.KnnRefIdeal.main_arg0)
          ∧ r.2.mem ((c.tc : Thread Cert.KnnRefIdeal.nD Cert.KnnRefIdeal.τ).loc Cert.KnnRefIdeal.main_arg1) = m' ((c.tc : Thread Cert.KnnRefIdeal.nD Cert.KnnRefIdeal.τ).loc Cert.KnnRefIdeal.main_arg1))

def Claim : Prop :=
  ∃ (hGather : Cert.Gather.Facts) (hGatherIdeal : Cert.GatherIdeal.Facts) (hGatherRefIdeal : Cert.GatherRefIdeal.Facts) (hFps : Cert.Fps.Facts) (hFpsIdeal : Cert.FpsIdeal.Facts) (hFpsRefIdeal : Cert.FpsRefIdeal.Facts) (hKnn : Cert.Knn.Facts) (hKnnIdeal : Cert.KnnIdeal.Facts) (hKnnRefIdeal : Cert.KnnRefIdeal.Facts) (hPre_rows_in_points : Cert.Pre_rows_in_points.Facts) (hPre_points_finite : Cert.Pre_points_finite.Facts),
    quiescent_Gather (hGather := hGather) (hPre_rows_in_points := hPre_rows_in_points)
    ∧ quiescent_GatherIdeal (hGatherIdeal := hGatherIdeal) (hPre_rows_in_points := hPre_rows_in_points)
    ∧ quiescent_GatherRefIdeal (hGatherRefIdeal := hGatherRefIdeal)
    ∧ quiescent_GatherRefIdeal_pre_rows_in_points (hGatherRefIdeal := hGatherRefIdeal) (hPre_rows_in_points := hPre_rows_in_points)
    ∧ quiescent_Fps (hFps := hFps)
    ∧ quiescent_FpsIdeal (hFpsIdeal := hFpsIdeal)
    ∧ quiescent_FpsRefIdeal (hFpsRefIdeal := hFpsRefIdeal)
    ∧ quiescent_Knn (hKnn := hKnn)
    ∧ quiescent_KnnIdeal (hKnnIdeal := hKnnIdeal)
    ∧ quiescent_KnnIdeal_pre_points_finite (hKnnIdeal := hKnnIdeal) (hPre_points_finite := hPre_points_finite)
    ∧ quiescent_KnnRefIdeal (hKnnRefIdeal := hKnnRefIdeal)
    ∧ quiescent_KnnRefIdeal_pre_points_finite (hKnnRefIdeal := hKnnRefIdeal) (hPre_points_finite := hPre_points_finite)
    ∧ preserves_Gather_GatherIdeal
    ∧ algebraic_GatherIdeal_GatherRefIdeal (hGatherIdeal := hGatherIdeal) (hGatherRefIdeal := hGatherRefIdeal) (hPre_rows_in_points := hPre_rows_in_points)
    ∧ preserves_Fps_FpsIdeal
    ∧ algebraic_FpsIdeal_FpsRefIdeal (hFpsIdeal := hFpsIdeal) (hFpsRefIdeal := hFpsRefIdeal)
    ∧ preserves_Knn_KnnIdeal
    ∧ algebraic_KnnIdeal_KnnRefIdeal_pre_points_finite (hKnnIdeal := hKnnIdeal) (hKnnRefIdeal := hKnnRefIdeal) (hPre_points_finite := hPre_points_finite)
-- ==== Pre_points_finite.lean ====
abbrev S8x8192x3 : Shape := ⟨3, ![8, 8192, 3]⟩
abbrev S8x512x3 : Shape := ⟨3, ![8, 512, 3]⟩
abbrev S_ : Shape := ⟨0, ![]⟩

class Facts : Prop where
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S8x512x3 : S_.BroadcastsInDim S8x512x3 (![] : Fin 0 → Fin S8x512x3.rank)
  reducesTo_S8x512x3_S_d0_1_2 : S8x512x3.ReducesTo [0, 1, 2] S_

variable [Facts]

def fn {F : FTy → Type} [FloatOps F] (main_arg0 : FVec F S8x8192x3 .f32) (main_arg1 : FVec F S8x512x3 .f32) : IVec S_ 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  let main_c : IVec S_ 1 := constantI S_ 1 1#1
  let main_v3 : IVec S_ 1 := (fun x v => Host.reduce IntOp.andi x v reducesTo_S8x8192x3_S_d0_1_2 h_S_) main_v2 main_c
  let main_v4 : FVec F S8x512x3 .f32 := Host.absf main_arg1
  let main_cst_0 : FVec F S_ .f32 := constant S_ .f32 0x7F800000#32
  let main_v5 : FVec F S8x512x3 .f32 := broadcastInDim S8x512x3 ![] bcast_S_S8x512x3 main_cst_0
  let main_v6 : IVec S8x512x3 1 := cmpf .olt main_v4 main_v5
  let main_c_1 : IVec S_ 1 := constantI S_ 1 1#1
  let main_v7 : IVec S_ 1 := (fun x v => Host.reduce IntOp.andi x v reducesTo_S8x512x3_S_d0_1_2 h_S_) main_v6 main_c_1
  let main_v8 : IVec S_ 1 := andi main_v3 main_v7
  main_v8
-- ==== Pre_rows_in_points.lean ====
abbrev S8x8192x3 : Shape := ⟨3, ![8, 8192, 3]⟩
abbrev S8x512x32 : Shape := ⟨3, ![8, 512, 32]⟩
abbrev S8x512x3 : Shape := ⟨3, ![8, 512, 3]⟩
abbrev S_ : Shape := ⟨0, ![]⟩

class Facts : Prop where
  bcast_S_S8x512x32 : S_.BroadcastsInDim S8x512x32 (![] : Fin 0 → Fin S8x512x32.rank)

variable [Facts]

def fn {F : FTy → Type} [FloatOps F] (main_arg0 : FVec F S8x8192x3 .f32) (main_arg1 : IVec S8x512x32 32) (main_arg2 : FVec F S8x512x3 .f32) : IVec S8x512x32 1 :=
  let main_c : IVec S_ 32 := constantI S_ 32 0#32
  let main_v0 : IVec S8x512x32 32 := broadcastInDim S8x512x32 ![] bcast_S_S8x512x32 main_c
  let main_v1 : IVec S8x512x32 1 := cmpi .sge main_arg1 main_v0
  let main_c_0 : IVec S_ 32 := constantI S_ 32 65536#32
  let main_v2 : IVec S8x512x32 32 := broadcastInDim S8x512x32 ![] bcast_S_S8x512x32 main_c_0
  let main_v3 : IVec S8x512x32 1 := cmpi .slt main_arg1 main_v2
  let main_v4 : IVec S8x512x32 1 := andi main_v1 main_v3
  main_v4
-- ==== Gather.lean ====
abbrev S8x8192x3 : Shape := ⟨3, ![8, 8192, 3]⟩
abbrev S8x512x32 : Shape := ⟨3, ![8, 512, 32]⟩
abbrev S8x512x3 : Shape := ⟨3, ![8, 512, 3]⟩
abbrev S65536x3 : Shape := ⟨2, ![65536, 3]⟩
abbrev S_ : Shape := ⟨0, ![]⟩
abbrev S65536x16 : Shape := ⟨2, ![65536, 16]⟩
abbrev S4096x3 : Shape := ⟨2, ![4096, 3]⟩
abbrev S4096x16 : Shape := ⟨2, ![4096, 16]⟩
abbrev S131072 : Shape := ⟨1, ![131072]⟩
abbrev S131072x16 : Shape := ⟨2, ![131072, 16]⟩
abbrev S4096 : Shape := ⟨1, ![4096]⟩
abbrev S128x16 : Shape := ⟨2, ![128, 16]⟩
abbrev S1x16 : Shape := ⟨2, ![1, 16]⟩
abbrev S16 : Shape := ⟨1, ![16]⟩
abbrev S8x512x32x16 : Shape := ⟨4, ![8, 512, 32, 16]⟩
abbrev S8x512x32x3 : Shape := ⟨4, ![8, 512, 32, 3]⟩

abbrev nBuf : Table → Nat
  | .hbm => 15
  | .local .scVector .vmem => 3
  | _ => 0

abbrev bufTy : (tb : Table) → Fin (nBuf tb) → BufTy
  | .hbm, ⟨0, _⟩ => ⟨S8x8192x3, .f32⟩
  | .hbm, ⟨1, _⟩ => ⟨S8x512x32, .i32⟩
  | .hbm, ⟨2, _⟩ => ⟨S8x512x3, .f32⟩
  | .hbm, ⟨3, _⟩ => ⟨S65536x3, .f32⟩
  | .hbm, ⟨4, _⟩ => ⟨S_, .i32⟩
  | .hbm, ⟨5, _⟩ => ⟨S_, .f32⟩
  | .hbm, ⟨6, _⟩ => ⟨S65536x16, .f32⟩
  | .hbm, ⟨7, _⟩ => ⟨S4096x3, .f32⟩
  | .hbm, ⟨8, _⟩ => ⟨S_, .i32⟩
  | .hbm, ⟨9, _⟩ => ⟨S_, .f32⟩
  | .hbm, ⟨10, _⟩ => ⟨S4096x16, .f32⟩
  | .hbm, ⟨11, _⟩ => ⟨S131072, .i32⟩
  | .hbm, ⟨12, _⟩ => ⟨S131072x16, .f32⟩
  | .hbm, ⟨13, _⟩ => ⟨S8x512x32x16, .f32⟩
  | .hbm, ⟨14, _⟩ => ⟨S8x512x32x3, .f32⟩
  | .local .scVector .vmem, ⟨0, _⟩ => ⟨S4096, .i32⟩
  | .local .scVector .vmem, ⟨1, _⟩ => ⟨S4096x16, .f32⟩
  | .local .scVector .vmem, ⟨2, _⟩ => ⟨S128x16, .f32⟩
  | _, _ => ⟨S8x8192x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v1_scv : Ref sig .scVector := ⟨.hbm, 6, rfl⟩
abbrev main_v4_scv : Ref sig .scVector := ⟨.hbm, 11, rfl⟩
abbrev main_v3_scv : Ref sig .scVector := ⟨.hbm, 10, rfl⟩
abbrev main_v5_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v3 : BitVec 32 := Scalar.muli v1 c128_i32
  let c0_i32_7_r1 : BitVec 32 := 0#32
  ![v3.toNat, 0]
@[reducible] def k0_t1_loop : Scf.Loop 32 :=
  let c0_i32_4 : BitVec 32 := 0#32
  let c128_i32_5 : BitVec 32 := 128#32
  let v6 : BitVec 32 := Scalar.addi c0_i32_4 c128_i32_5
  let c1_i32 : BitVec 32 := 1#32
  ⟨c0_i32_4, v6, c1_i32⟩
def k0_off3 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let v8 : Index := Scalar.indexCast arg10
  let c0 : Index := 0#32
  ![v8.toNat, 0]
def k0_off4 (k0_t1 : Fin k0_t1_loop.trips) (c0_i32_7 : BitVec 32) : Fin 2 → Nat :=
  let c0_i32_4 : BitVec 32 := 0#32
  let c1_i32 : BitVec 32 := 1#32
  let arg10 : BitVec 32 := Scf.iv c0_i32_4 c1_i32 k0_t1
  let c32_i32 : BitVec 32 := 32#32
  let v11 : BitVec 32 := Scalar.muli arg10 c32_i32
  let v12 : BitVec 32 := Scalar.addi v11 c0_i32_7
  let v13 : Index := Scalar.indexCast v12
  let c0_8 : Index := 0#32
  ![v13.toNat, 0]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_7_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRefIdeal.lean ====
abbrev S8x8192x3 : Shape := ⟨3, ![8, 8192, 3]⟩
abbrev S8x512x32 : Shape := ⟨3, ![8, 512, 32]⟩
abbrev S8x512x3 : Shape := ⟨3, ![8, 512, 3]⟩
abbrev S65536x3 : Shape := ⟨2, ![65536, 3]⟩
abbrev S_ : Shape := ⟨0, ![]⟩
abbrev S8x512x32x1 : Shape := ⟨4, ![8, 512, 32, 1]⟩
abbrev S8x512x32x3 : Shape := ⟨4, ![8, 512, 32, 3]⟩
abbrev S8x512x1x3 : Shape := ⟨4, ![8, 512, 1, 3]⟩

abbrev nBuf : Space → Nat
  | .hbm => 16
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x512x32, .i32⟩
  | .hbm, ⟨2, _⟩ => ⟨S8x512x3, .f32⟩
  | .hbm, ⟨3, _⟩ => ⟨S65536x3, .f32⟩
  | .hbm, ⟨4, _⟩ => ⟨S_, .i32⟩
  | .hbm, ⟨5, _⟩ => ⟨S8x512x32, .i32⟩
  | .hbm, ⟨6, _⟩ => ⟨S8x512x32, .i1⟩
  | .hbm, ⟨7, _⟩ => ⟨S_, .i32⟩
  | .hbm, ⟨8, _⟩ => ⟨S8x512x32, .i32⟩
  | .hbm, ⟨9, _⟩ => ⟨S8x512x32, .i32⟩
  | .hbm, ⟨10, _⟩ => ⟨S8x512x32, .i32⟩
  | .hbm, ⟨11, _⟩ => ⟨S8x512x32x1, .i32⟩
  | .hbm, ⟨12, _⟩ => ⟨S8x512x32x3, .f32⟩
  | .hbm, ⟨13, _⟩ => ⟨S8x512x1x3, .f32⟩
  | .hbm, ⟨14, _⟩ => ⟨S8x512x32x3, .f32⟩
  | .hbm, ⟨15, _⟩ => ⟨S8x512x32x3, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Fps.lean ====
abbrev S8x8192x3 : Shape := ⟨3, ![8, 8192, 3]⟩
abbrev S3x8x8192 : Shape := ⟨3, ![3, 8, 8192]⟩
abbrev S3x8x512 : Shape := ⟨3, ![3, 8, 512]⟩
abbrev S8x8192 : Shape := ⟨2, ![8, 8192]⟩
abbrev S1x8x8192 : Shape := ⟨3, ![1, 8, 8192]⟩
abbrev S8x512 : Shape := ⟨2, ![8, 512]⟩
abbrev S8x1 : Shape := ⟨2, ![8, 1]⟩
abbrev S8 : Shape := ⟨1, ![8]⟩
abbrev S1x8x512 : Shape := ⟨3, ![1, 8, 512]⟩
abbrev S8x512x3 : Shape := ⟨3, ![8, 512, 3]⟩

abbrev nBuf : Space → Nat
  | .hbm => 4
  | .vmem => 3
  | .smem => 0
  | _ => 0

abbrev bufTy : (tb : Table) → Fin (tcTables nBuf tb) → BufTy
  | .hbm, ⟨0, _⟩ => ⟨S8x8192x3, .f32⟩
  | .hbm, ⟨1, _⟩ => ⟨S3x8x8192, .f32⟩
  | .hbm, ⟨2, _⟩ => ⟨S3x8x512, .f32⟩
  | .hbm, ⟨3, _⟩ => ⟨S8x512x3, .f32⟩
  | .local _ .vmem, ⟨0, _⟩ => ⟨S3x8x8192, .f32⟩
  | .local _ .vmem, ⟨1, _⟩ => ⟨S3x8x512, .f32⟩
  | .local _ .vmem, ⟨2, _⟩ => ⟨S8x8192, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_8 : BitVec 32 := 0#32
  let c512_i32 : BitVec 32 := 512#32
  let v13 : BitVec 32 := Scalar.addi c0_i32_8 c512_i32
  let c1_i32 : BitVec 32 := 1#32
  ⟨c0_i32_8, v13, c1_i32⟩
abbrev stage0_0 : Fin 1 → Memref sig .tc .vmem S3x8x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== FpsRefIdeal.lean ====
abbrev S8x8192x3 : Shape := ⟨3, ![8, 8192, 3]⟩
abbrev S_ : Shape := ⟨0, ![]⟩
abbrev S8x8192 : Shape := ⟨2, ![8, 8192]⟩
abbrev S8 : Shape := ⟨1, ![8]⟩
abbrev S512x8x3 : Shape := ⟨3, ![512, 8, 3]⟩
abbrev S8x1x1 : Shape := ⟨3, ![8, 1, 1]⟩
abbrev S8x1x3 : Shape := ⟨3, ![8, 1, 3]⟩
abbrev S8x1 : Shape := ⟨2, ![8, 1]⟩
abbrev S8x3 : Shape := ⟨2, ![8, 3]⟩
abbrev S1x8x3 : Shape := ⟨3, ![1, 8, 3]⟩
abbrev S8x512x3 : Shape := ⟨3, ![8, 512, 3]⟩

abbrev nBuf : Space → Nat
  | .hbm => 41
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S_, .f32⟩
  | .hbm, ⟨2, _⟩ => ⟨S8x8192, .f32⟩
  | .hbm, ⟨3, _⟩ => ⟨S_, .i32⟩
  | .hbm, ⟨4, _⟩ => ⟨S8, .i32⟩
  | .hbm, ⟨5, _⟩ => ⟨S_, .f32⟩
  | .hbm, ⟨6, _⟩ => ⟨S512x8x3, .f32⟩
  | .hbm, ⟨7, _⟩ => ⟨S_, .i32⟩
  | .hbm, ⟨8, _⟩ => ⟨S8x8192x3, .f32⟩
  | .hbm, ⟨9, _⟩ => ⟨S_, .i32⟩
  | .hbm, ⟨10, _⟩ => ⟨S8x8192, .f32⟩
  | .hbm, ⟨11, _⟩ => ⟨S8, .i32⟩
  | .hbm, ⟨12, _⟩ => ⟨S512x8x3, .f32⟩
  | .hbm, ⟨13, _⟩ => ⟨S_, .i32⟩
  | .hbm, ⟨14, _⟩ => ⟨S_, .i1⟩
  | .hbm, ⟨15, _⟩ => ⟨S8x1x1, .i32⟩
  | .hbm, ⟨16, _⟩ => ⟨S_, .i32⟩
  | .hbm, ⟨17, _⟩ => ⟨S8x1x1, .i32⟩
  | .hbm, ⟨18, _⟩ => ⟨S8x1x1, .i1⟩
  | .hbm, ⟨19, _⟩ => ⟨S_, .i32⟩
  | .hbm, ⟨20, _⟩ => ⟨S8x1x1, .i32⟩
  | .hbm, ⟨21, _⟩ => ⟨S8x1x1, .i32⟩
  | .hbm, ⟨22, _⟩ => ⟨S8x1x1, .i32⟩
  | .hbm, ⟨23, _⟩ => ⟨S8x1x3, .f32⟩
  | .hbm, ⟨24, _⟩ => ⟨S8x8192x3, .f32⟩
  | .hbm, ⟨25, _⟩ => ⟨S8x8192x3, .f32⟩
  | .hbm, ⟨26, _⟩ => ⟨S8x8192x3, .f32⟩
  | .hbm, ⟨27, _⟩ => ⟨S_, .f32⟩
  | .hbm, ⟨28, _⟩ => ⟨S8x8192, .f32⟩
  | .hbm, ⟨29, _⟩ => ⟨S8x8192, .f32⟩
  | .hbm, ⟨30, _⟩ => ⟨S8x1, .f32⟩
  | .hbm, ⟨31, _⟩ => ⟨S8x1, .i32⟩
  | .hbm, ⟨32, _⟩ => ⟨S8, .i32⟩
  | .hbm, ⟨33, _⟩ => ⟨S8x3, .f32⟩
  | .hbm, ⟨34, _⟩ => ⟨S1x8x3, .f32⟩
  | .hbm, ⟨35, _⟩ => ⟨S_, .i32⟩
  | .hbm, ⟨36, _⟩ => ⟨S_, .i32⟩
  | .hbm, ⟨37, _⟩ => ⟨S512x8x3, .f32⟩
  | .hbm, ⟨38, _⟩ => ⟨S_, .i32⟩
  | .hbm, ⟨39, _⟩ => ⟨S_, .i32⟩
  | .hbm, ⟨40, _⟩ => ⟨S8x512x3, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_c_1 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_while0c_c_6 : Ref sig .tc := ⟨.hbm, 13, rfl⟩
abbrev main_while0c_v5 : Ref sig .tc := ⟨.hbm, 14, rfl⟩
abbrev main_while0b_v5 : Ref sig .tc := ⟨.hbm, 15, rfl⟩
abbrev main_while0b_call0_c : Ref sig .tc := ⟨.hbm, 16, rfl⟩
abbrev main_while0b_call0_v0 : Ref sig .tc := ⟨.hbm, 17, rfl⟩
abbrev main_while0b_call0_v1 : Ref sig .tc := ⟨.hbm, 18, rfl⟩
abbrev main_while0b_call0_c_0 : Ref sig .tc := ⟨.hbm, 19, rfl⟩
abbrev main_while0b_call0_v2 : Ref sig .tc := ⟨.hbm, 20, rfl⟩
abbrev main_while0b_call0_v3 : Ref sig .tc := ⟨.hbm, 21, rfl⟩
abbrev main_while0b_call0_v4 : Ref sig .tc := ⟨.hbm, 22, rfl⟩
abbrev main_while0b_v6 : Ref sig .tc := ⟨.hbm, 23, rfl⟩
abbrev main_while0b_v7 : Ref sig .tc := ⟨.hbm, 24, rfl⟩
abbrev main_while0b_v8 : Ref sig .tc := ⟨.hbm, 25, rfl⟩
abbrev main_while0b_v9 : Ref sig .tc := ⟨.hbm, 26, rfl⟩
abbrev main_while0b_cst_6 : Ref sig .tc := ⟨.hbm, 27, rfl⟩
abbrev main_while0b_v10 : Ref sig .tc := ⟨.hbm, 28, rfl⟩
abbrev main_while0b_v11 : Ref sig .tc := ⟨.hbm, 29, rfl⟩
abbrev main_while0b_values : Ref sig .tc := ⟨.hbm, 30, rfl⟩
abbrev main_while0b_indices : Ref sig .tc := ⟨.hbm, 31, rfl⟩
abbrev main_while0b_v12 : Ref sig .tc := ⟨.hbm, 32, rfl⟩
abbrev main_while0b_v13 : Ref sig .tc := ⟨.hbm, 33, rfl⟩
abbrev main_while0b_call1_v0 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_v14 : Ref sig .tc := ⟨.hbm, 37, rfl⟩
abbrev main_while0b_c_7 : Ref sig .tc := ⟨.hbm, 38, rfl⟩
abbrev main_while0b_v15 : Ref sig .tc := ⟨.hbm, 39, rfl⟩
abbrev main_v4 : Ref sig .tc := ⟨.hbm, 40, rfl⟩

abbrev nD : Nat := 1
abbrev τ : Topo := Topo.v7x

variable {F : FTy → Type} [FloatOps F]

abbrev main_while0_count : Scf.Loop 32 := ⟨0#32, 512#32, 1#32⟩
-- ==== Knn.lean ====
abbrev S8x8192x3 : Shape := ⟨3, ![8, 8192, 3]⟩
abbrev S8x512x3 : Shape := ⟨3, ![8, 512, 3]⟩
abbrev S3x8x8192 : Shape := ⟨3, ![3, 8, 8192]⟩
abbrev S8x512x32 : Shape := ⟨3, ![8, 512, 32]⟩
abbrev S1x512x3 : Shape := ⟨3, ![1, 512, 3]⟩
abbrev S1x512x32 : Shape := ⟨3, ![1, 512, 32]⟩
abbrev S512x3 : Shape := ⟨2, ![512, 3]⟩
abbrev S3x1x8192 : Shape := ⟨3, ![3, 1, 8192]⟩
abbrev S3x8192 : Shape := ⟨2, ![3, 8192]⟩
abbrev S512x8192 : Shape := ⟨2, ![512, 8192]⟩
abbrev S512x1 : Shape := ⟨2, ![512, 1]⟩
abbrev S1x8192 : Shape := ⟨2, ![1, 8192]⟩
abbrev S512 : Shape := ⟨1, ![512]⟩
abbrev S512x32 : Shape := ⟨2, ![512, 32]⟩

abbrev nBuf : Space → Nat
  | .hbm => 4
  | .vmem => 5
  | .smem => 0
  | _ => 0

abbrev bufTy : (tb : Table) → Fin (tcTables nBuf tb) → BufTy
  | .hbm, ⟨0, _⟩ => ⟨S8x8192x3, .f32⟩
  | .hbm, ⟨1, _⟩ => ⟨S8x512x3, .f32⟩
  | .hbm, ⟨2, _⟩ => ⟨S3x8x8192, .f32⟩
  | .hbm, ⟨3, _⟩ => ⟨S8x512x32, .i32⟩
  | .local _ .vmem, ⟨0, _⟩ => ⟨S1x512x3, .f32⟩
  | .local _ .vmem, ⟨1, _⟩ => ⟨S1x512x3, .f32⟩
  | .local _ .vmem, ⟨2, _⟩ => ⟨S3x8x8192, .f32⟩
  | .local _ .vmem, ⟨3, _⟩ => ⟨S1x512x32, .i32⟩
  | .local _ .vmem, ⟨4, _⟩ => ⟨S1x512x32, .i32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_off1 (i : grid0.Coords) : Fin 3 → Nat :=
  let c0_2 : Index := 0#32
  let arg0 : BitVec 32 := BitVec.ofNat 32 (i 0).val
  let v2 : Index := Scalar.indexCast arg0
  let c0_3 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KnnRefIdeal.lean ====
abbrev S8x8192x3 : Shape := ⟨3, ![8, 8192, 3]⟩
abbrev S8x512x3 : Shape := ⟨3, ![8, 512, 3]⟩
abbrev S_ : Shape := ⟨0, ![]⟩
abbrev S8x512 : Shape := ⟨2, ![8, 512]⟩
abbrev S8x512x1 : Shape := ⟨3, ![8, 512, 1]⟩
abbrev S8x8192 : Shape := ⟨2, ![8, 8192]⟩
abbrev S8x1x8192 : Shape := ⟨3, ![8, 1, 8192]⟩
abbrev S8x512x8192 : Shape := ⟨3, ![8, 512, 8192]⟩
abbrev S8x512x32 : Shape := ⟨3, ![8, 512, 32]⟩
abbrev S8 : Shape := ⟨1, ![8]⟩
abbrev S8x1x1 : Shape := ⟨3, ![8, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x512x3, .f32⟩
  | .hbm, ⟨2, _⟩ => ⟨S8x512x3, .f32⟩
  | .hbm, ⟨3, _⟩ => ⟨S_, .f32⟩
  | .hbm, ⟨4, _⟩ => ⟨S8x512, .f32⟩
  | .hbm, ⟨5, _⟩ => ⟨S8x512x1, .f32⟩
  | .hbm, ⟨6, _⟩ => ⟨S8x8192x3, .f32⟩
  | .hbm, ⟨7, _⟩ => ⟨S_, .f32⟩
  | .hbm, ⟨8, _⟩ => ⟨S8x8192, .f32⟩
  | .hbm, ⟨9, _⟩ => ⟨S8x1x8192, .f32⟩
  | .hbm, ⟨10, _⟩ => ⟨S8x512x8192, .f32⟩
  | .hbm, ⟨11, _⟩ => ⟨S8x512x8192, .f32⟩
  | .hbm, ⟨12, _⟩ => ⟨S8x512x8192, .f32⟩
  | .hbm, ⟨13, _⟩ => ⟨S8x512x8192, .f32⟩
  | .hbm, ⟨14, _⟩ => ⟨S_, .f32⟩
  | .hbm, ⟨15, _⟩ => ⟨S8x512x8192, .f32⟩
  | .hbm, ⟨16, _⟩ => ⟨S8x512x8192, .f32⟩
  | .hbm, ⟨17, _⟩ => ⟨S8x512x8192, .f32⟩
  | .hbm, ⟨18, _⟩ => ⟨S8x512x8192, .f32⟩
  | .hbm, ⟨19, _⟩ => ⟨S8x512x32, .f32⟩
  | .hbm, ⟨20, _⟩ => ⟨S8x512x32, .i32⟩
  | .hbm, ⟨21, _⟩ => ⟨S8, .i32⟩
  | .hbm, ⟨22, _⟩ => ⟨S8x1x1, .i32⟩
  | .hbm, ⟨23, _⟩ => ⟨S_, .i32⟩
  | .hbm, ⟨24, _⟩ => ⟨S8x1x1, .i32⟩
  | .hbm, ⟨25, _⟩ => ⟨S8x1x1, .i32⟩
  | .hbm, ⟨26, _⟩ => ⟨S8x512x32, .i32⟩
  | .hbm, ⟨27, _⟩ => ⟨S8x512x32, .i32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.GatherIdealTile.lean ====
/-
  The SparseCore kernel's task, run once at a symbolic (SparseCore, vector subcore) pair, its VALUE carried: the task
  numbered `w` fetches its 4096 row numbers and its 128 centre rows, gathers the rows of the padded points those numbers
  name, subtracts centre row `t` from rows `32 t … 32 t + 31`, and writes its 4096 rows out. `OUT` is the array the
  thirty-two tasks write together.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise
public import Idealize.ShloMosaic.Lib.Writes
public import Idealize.ShloMosaic.Lib.Tactic
public import proofs.«01_k».proof.Proof.Gen.GatherIdeal
public import proofs.«01_k».proof.Proof.Gen.GatherIdeal.Skeleton

@[expose] public section

set_option maxRecDepth 16384

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_eq : (K (F := F)).nSub 0 = 16 := rfl
theorem nCore_eq : (K (F := F)).nCore 0 = 2 := rfl
abbrev 𝒱₀ : Variants := Variants.none

abbrev UH : Type := URounds (GSem nD τ sig) ℕ
abbrev UU : Type := UH × Counters

local notation "𝕄" => MT nD τ sig (HIx 1) (Elt F) ℕ UU ℕ

/-! ## The call's arrays and what the tasks compute -/

abbrev xLoc (d : Dev nD) : Loc nD τ sig := (SparseCore.T d).loc main_v1
abbrev gLoc (d : Dev nD) : Loc nD τ sig := (SparseCore.T d).loc main_v4
abbrev cLoc (d : Dev nD) : Loc nD τ sig := (SparseCore.T d).loc main_v3
abbrev oLoc (d : Dev nD) : Loc nD τ sig := (SparseCore.T d).loc main_v5

local notation "xV" => (Memref.whole Cert.GatherIdeal.main_v1_scv : Memref Cert.GatherIdeal.sig Kind.scVector Space.hbm Cert.GatherIdeal.S65536x16 EltTy.f32)
local notation "gV" => (Memref.whole Cert.GatherIdeal.main_v4_scv : Memref Cert.GatherIdeal.sig Kind.scVector Space.hbm Cert.GatherIdeal.S131072 EltTy.i32)
local notation "cV" => (Memref.whole Cert.GatherIdeal.main_v3_scv : Memref Cert.GatherIdeal.sig Kind.scVector Space.hbm Cert.GatherIdeal.S4096x16 EltTy.f32)
local notation "oV" => (Memref.whole Cert.GatherIdeal.main_v5_scv : Memref Cert.GatherIdeal.sig Kind.scVector Space.hbm Cert.GatherIdeal.S131072x16 EltTy.f32)
local notation "sV" => (Memref.whole Cert.GatherIdeal.cc0_scratch0 : Memref Cert.GatherIdeal.sig Kind.scVector Space.vmem Cert.GatherIdeal.S4096 EltTy.i32)
local notation "rV" => (Memref.whole Cert.GatherIdeal.cc0_scratch1 : Memref Cert.GatherIdeal.sig Kind.scVector Space.vmem Cert.GatherIdeal.S4096x16 EltTy.f32)
local notation "nV" => (Memref.whole Cert.GatherIdeal.cc0_scratch2 : Memref Cert.GatherIdeal.sig Kind.scVector Space.vmem Cert.GatherIdeal.S128x16 EltTy.f32)

variable [FloatOps F]

/-- The row of the points a word names. -/
def rowOf (w : BitVec 32) : Fin 65536 := ⟨w.toNat % 65536, Nat.mod_lt _ (by decide)⟩

/-- The gathered rows: row `r` is the row of the points that word `r` of the list names. -/
def gathered (X : S65536x16.Idx → Elt F .f32) (G : S131072.Idx → Elt F .i32) : S131072x16.Idx → Elt F .f32 :=
  fun y => X (ix2 (rowOf (G (ix1 (y 0)))) (y 1))

/-- The centre under each gathered row: one centre per thirty-two rows. -/
def centers (C : S4096x16.Idx → Elt F .f32) : S131072x16.Idx → Elt F .f32 :=
  fun y => C (ix2 ⟨(y 0).val / 32, by have : (y 0).val < 131072 := (y 0).isLt; omega⟩ (y 1))

/-- What the call leaves in its result: the gathered rows relative to their centres. -/
def OUT (X : S65536x16.Idx → Elt F .f32) (G : S131072.Idx → Elt F .i32) (C : S4096x16.Idx → Elt F .f32) : S131072x16.Idx → Elt F .f32 :=
  subf (φ := .f32) (gathered X G) (centers C)

/-! ## The task -/

/-- The task's number. -/
def wid (L : grid0.Coords) : Fin 32 := ⟨2 * (L 1).val + (L 0).val, by
  have h0 : (L 0).val < 2 := (L 0).isLt; have h1 : (L 1).val < 16 := (L 1).isLt; omega⟩

theorem odiv : 32 ∣ S131072x16.size 0 := ⟨4096, rfl⟩
/-- Task `w`'s rows of the result. -/
abbrev orow (w : Fin 32) : Rect S131072x16 := Rect.part (s := S131072x16) (a₀ := 0) odiv w
abbrev oSet (w : Fin 32) : Finset S131072x16.Idx := ((oV).view.slice (orow w)).set

/-- Task `w`'s read share of an array all tasks read. -/
abbrev shr (w : Fin 32) : PosShare TreeShare := Transfers.dealOf fullShare Finset.univ w

abbrev xSh (d : Dev nD) (w : Fin 32) (X : Buf (Elt F) (xLoc d)) : sProp 𝕄 := xLoc d ↦{shr w} X
abbrev gSh (d : Dev nD) (w : Fin 32) (G : Buf (Elt F) (gLoc d)) : sProp 𝕄 := gLoc d ↦{shr w} G
abbrev cSh (d : Dev nD) (w : Fin 32) (C : Buf (Elt F) (cLoc d)) : sProp 𝕄 := cLoc d ↦{shr w} C
abbrev oCh (d : Dev nD) (w : Fin 32) (f : Buf (Elt F) (oLoc d)) : sProp 𝕄 := oLoc d ↦[oSet w]{fullShare} f

section Tile

variable (d : Dev nD) (L : grid0.Coords)

abbrev coreV (L : grid0.Coords) : Fin τ.nSC := (L 0).castLE hcore0
abbrev subV (L : grid0.Coords) : Fin τ.nSub := (L 1).castLE hsub0
abbrev thr (d : Dev nD) (L : grid0.Coords) : Thread nD τ := V d (coreV L) (subV L)

abbrev orowK (L : grid0.Coords) : Rect S131072x16 := Rect.unit (s := S131072x16) (k0_off5 L) S4096x16.size (k0_off5_inb L)
abbrev oRowK (L : grid0.Coords) : Memref sig .scVector .hbm S4096x16 .f32 := (oV).slice (orowK L) (fun _ => rfl)

omit [FloatOps F] in
theorem orowK_eq : orowK L = orow (wid L) := by
  unfold orowK orow Rect.part Rect.block
  congr 1 <;> funext a
  · rw [k0_off5_eq]
    match a with
    | 0 => simp [Shape.partIx, Shape.partSize, wid]; omega
    | 1 => simp [Shape.partIx, Shape.partSize]
  · match a with
    | 0 => simp [Shape.partSize]
    | 1 => simp [Shape.partSize]

omit [FloatOps F] in
theorem set_oRowK : (oRowK L).view.set = oSet (wid L) := by
  show ((oV).view.slice (orowK L)).set = ((oV).view.slice (orow (wid L))).set
  exact orowK_eq L ▸ rfl

omit [FloatOps F] in
theorem pts_oRowK (f : Buf (Elt F) (oLoc d)) :
    ((oRowK L).view.loc (thr d L) ↦[(oRowK L).view.set]{fullShare} f : sProp 𝕄) = oLoc d ↦[oSet (wid L)]{fullShare} f := by
  rw [set_oRowK]

abbrev cell (d : Dev nD) (L : grid0.Coords) (s : DmaSem sig) : GSem nD τ sig := (thr d L, .dma s)

/-- The four semaphores the task waits on, out of the subcore's own. -/
theorem ownSems0_V :
    (ownSems0 (thr d L) : sProp 𝕄)
      = iprop(semVal (cell d L cc0_scratch3.sem) 0 ∗ semVal (cell d L cc0_scoped0.sem) 0 ∗ semVal (cell d L cc0_scoped1.sem) 0 ∗ semVal (cell d L cc0_scoped2.sem) 0
          ∗ bigSep (((((ownCells (thr d L)).erase (cell d L cc0_scratch3.sem)).erase (cell d L cc0_scoped0.sem)).erase (cell d L cc0_scoped1.sem)).erase
              (cell d L cc0_scoped2.sem)) fun g => semVal g 0) := by
  unfold SparseCore.Cfg.ownSems0
  have hm (s : DmaSem sig) (h : (SemLoc.dma s : SemLoc sig).isScoped .scVector = true) : cell d L s ∈ ownCells (thr d L) :=
    (mem_ownCells (g := cell d L s)).mpr ⟨rfl, h⟩
  have hne (s s' : DmaSem sig) (h : (SemLoc.dma s : SemLoc sig) ≠ SemLoc.dma s') : cell d L s ≠ cell d L s' := fun e => h (congrArg Prod.snd e)
  rw [SparseCore.bigSep_erase' (hm cc0_scratch3.sem (by decide)),
    SparseCore.bigSep_erase' (Finset.mem_erase.mpr ⟨hne cc0_scoped0.sem cc0_scratch3.sem (by decide), hm cc0_scoped0.sem (by decide)⟩),
    SparseCore.bigSep_erase' (Finset.mem_erase.mpr ⟨hne cc0_scoped1.sem cc0_scoped0.sem (by decide),
      Finset.mem_erase.mpr ⟨hne cc0_scoped1.sem cc0_scratch3.sem (by decide), hm cc0_scoped1.sem (by decide)⟩⟩),
    SparseCore.bigSep_erase' (Finset.mem_erase.mpr ⟨hne cc0_scoped2.sem cc0_scoped1.sem (by decide),
      Finset.mem_erase.mpr ⟨hne cc0_scoped2.sem cc0_scoped0.sem (by decide),
        Finset.mem_erase.mpr ⟨hne cc0_scoped2.sem cc0_scratch3.sem (by decide), hm cc0_scoped2.sem (by decide)⟩⟩⟩)]

abbrev vRef (L : grid0.Coords) (b : Ref sig .scVector) : DevRef τ sig := (Proc.scVector (coreV L) (subV L)).devRef b

/-- The three scratch buffers out of the subcore's own. -/
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (coreV L) (subV L))).erase (vRef L cc0_scratch0)).erase (vRef L cc0_scratch1)).erase (vRef L cc0_scratch2))
              fun b => iprop(∃ f, ((d, b) : Loc nD τ sig) ↦{fullShare} f)) := by
  unfold SparseCore.Cfg.ownBufs
  have hm (b : Ref sig .scVector) (h : (vRef L b).owner = _) : vRef L b ∈ ownRefs (τ := τ) (.scVector (coreV L) (subV L)) :=
    SparseCore.Cfg.mem_ownRefs_of_owner (p := Proc.scVector (coreV L) (subV L)) (b := vRef L b) h
  have hne (b b' : Ref sig .scVector) (h : b ≠ b') : vRef L b ≠ vRef L b' := fun e => h (Proc.devRef_injective _ e)
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide), Finset.mem_erase.mpr ⟨hne cc0_scratch2 cc0_scratch0 (by decide), hm cc0_scratch2 rfl⟩⟩)]

/-! ## What the scratch buffers hold -/

/-- Row `r` of task `w`'s block of the result. -/
def blk (w : Fin 32) (r : Fin 4096) : Fin 131072 := ⟨4096 * w.val + r.val, by omega⟩

/-- The row numbers the task fetches. -/
def lst (w : Fin 32) (G : S131072.Idx → Elt F .i32) : S4096.Idx → Elt F .i32 := fun j => G (ix1 (blk w (j 0)))

/-- The centre rows the task fetches. -/
def cen (w : Fin 32) (C : S4096x16.Idx → Elt F .f32) : S128x16.Idx → Elt F .f32 :=
  fun y => C (ix2 (⟨128 * w.val + (y 0).val, by have : (y 0).val < 128 := (y 0).isLt; omega⟩ : Fin 4096) (y 1))

/-- The row buffer when its first `n` rows have had their centres subtracted. -/
def st (w : Fin 32) (X : S65536x16.Idx → Elt F .f32) (G : S131072.Idx → Elt F .i32) (C : S4096x16.Idx → Elt F .f32) (n : ℕ) :
    S4096x16.Idx → Elt F .f32 :=
  fun y => if (y 0).val < n then OUT X G C (ix2 (blk w (y 0)) (y 1)) else gathered X G (ix2 (blk w (y 0)) (y 1))

/-- The loop's state before trip `k`: the centre rows, and the row buffer with its first `32 k` rows done. -/
def inv (X : Buf (Elt F) (xLoc d)) (G : Buf (Elt F) (gLoc d)) (C : Buf (Elt F) (cLoc d)) (k : ℕ) (_ : BitVec 32) : sProp 𝕄 :=
  iprop(((nV).view.loc (thr d L) ↦{fullShare} cen (wid L) C) ∗ (rV).view.loc (thr d L) ↦{fullShare} st (wid L) X G C (32 * k))

omit [FloatOps F] in
theorem subf_at [FloatOps F] {s t : Shape} {a b : FVec F s .f32} {a' b' : FVec F t .f32} {i : s.Idx} {j : t.Idx} (h1 : a i = a' j) (h2 : b i = b' j) :
    subf a b i = subf a' b' j := by
  simp only [subf, h1, h2]

/-- The rows of a trip, the last stored first. -/
def rowsDown : List (Fin 32) := [31, 30, 29, 28, 27, 26, 25, 24, 23, 22, 21, 20, 19, 18, 17, 16, 15, 14, 13, 12, 11, 10, 9, 8, 7, 6, 5, 4, 3, 2, 1, 0]

/-- Row `c` of trip `k`, as the trip addresses it in the row buffer. -/
abbrev rowRect (k : Fin k0_t1_loop.trips) (c : Fin 32) : Rect S4096x16 :=
  Rect.unit (s := S4096x16) (k0_off4 k (BitVec.ofNat 32 c.val)) S1x16.size (k0_off4_inb k c)

/-- What trip `k` stores to its row `c`: that row less the centre row `k`, each read as sixteen lanes. -/
def rowVal (R : S4096x16.Idx → Elt F .f32) (N : S128x16.Idx → Elt F .f32) (k : Fin k0_t1_loop.trips) (c : Fin 32) : FVec F S1x16 .f32 :=
  shapeCast S1x16 (subf (shapeCast S16 (View.readAt (Elt F) (rV).view (rowRect k c).toLoadRect R : FVec F S1x16 .f32) shapeCasts_S1x16_S16)
    (shapeCast S16 (View.readAt (Elt F) (nV).view (Rect.unit (s := S128x16) (k0_off3 k) S1x16.size (k0_off3_inb k)).toLoadRect N : FVec F S1x16 .f32)
      shapeCasts_S1x16_S16)) shapeCasts_S16_S1x16

/-- The trip's stores, the last first. -/
def stores (R : S4096x16.Idx → Elt F .f32) (N : S128x16.Idx → Elt F .f32) (k : Fin k0_t1_loop.trips) : List (View.Piece (Elt F) S4096x16 .f32) :=
  rowsDown.map fun c => ⟨rowRect k c, rowVal R N k c⟩

theorem trips_lt (k : Fin k0_t1_loop.trips) : k.val < 128 := Nat.lt_of_lt_of_le k.isLt k0_t1_abs.2.1

theorem rowRect_emb (k : Fin k0_t1_loop.trips) (c : Fin 32) (x : S1x16.Idx) :
    (rowRect k c).emb x = ix2 (⟨32 * k.val + c.val, by have := trips_lt k; omega⟩ : Fin 4096) (x 1) := by
  refine Rect.emb_eq_of_coords (rowRect k c) x _ fun a => ?_
  have h0 : (x 0).val = 0 := by have : (x 0).val < 1 := (x 0).isLt; omega
  have ho := k0_off4_eq k c
  match a with
  | 0 => show 32 * k.val + c.val = k0_off4 k (BitVec.ofNat 32 c.val) 0 + 1 * (x 0).val; rw [ho, h0]; rfl
  | 1 => show (x 1).val = k0_off4 k (BitVec.ofNat 32 c.val) 1 + 1 * (x 1).val; rw [ho]; show (x 1).val = 0 + 1 * (x 1).val; omega

theorem rowVal_apply (X : Buf (Elt F) (xLoc d)) (G : Buf (Elt F) (gLoc d)) (C : Buf (Elt F) (cLoc d)) (w : Fin 32) (k : Fin k0_t1_loop.trips) (c : Fin 32) (x : S1x16.Idx) :
    rowVal (st w X G C (32 * k.val)) (cen w C) k c x = OUT X G C (ix2 (blk w (⟨32 * k.val + c.val, by have := trips_lt k; omega⟩ : Fin 4096)) (x 1)) := by
  have hs : rowVal (st w X G C (32 * k.val)) (cen w C) k c
      = subf (φ := .f32) (View.readAt (Elt F) (rV).view (rowRect k c).toLoadRect (st w X G C (32 * k.val)) : FVec F S1x16 .f32)
        (View.readAt (Elt F) (nV).view (Rect.unit (s := S128x16) (k0_off3 k) S1x16.size (k0_off3_inb k)).toLoadRect (cen w C) : FVec F S1x16 .f32) := by
    unfold rowVal
    have hd (a b : FVec F S16 .f32) : shapeCast S1x16 (subf a b) shapeCasts_S16_S1x16
        = subf (φ := .f32) (shapeCast S1x16 a shapeCasts_S16_S1x16) (shapeCast S1x16 b shapeCasts_S16_S1x16) := rfl
    rw [hd, shapeCast_shapeCast, shapeCast_shapeCast]
  rw [hs]
  have h0 : (x 0).val = 0 := by have : (x 0).val < 1 := (x 0).isLt; omega
  have e1 : (View.readAt (Elt F) (rV).view (rowRect k c).toLoadRect (st w X G C (32 * k.val)) : FVec F S1x16 .f32) x
      = st w X G C (32 * k.val) ((rowRect k c).emb x) := rfl
  have e2 : (View.readAt (Elt F) (nV).view (Rect.unit (s := S128x16) (k0_off3 k) S1x16.size (k0_off3_inb k)).toLoadRect (cen w C) : FVec F S1x16 .f32) x
      = cen w C ((Rect.unit (s := S128x16) (k0_off3 k) S1x16.size (k0_off3_inb k)).emb x) := rfl
  have e3 : (Rect.unit (s := S128x16) (k0_off3 k) S1x16.size (k0_off3_inb k)).emb x = ix2 (⟨k.val, trips_lt k⟩ : Fin 128) (x 1) := by
    refine Rect.emb_eq_of_coords (Rect.unit (s := S128x16) (k0_off3 k) S1x16.size (k0_off3_inb k)) x _ fun a => ?_
    match a with
    | 0 => show k.val = k0_off3 k 0 + 1 * (x 0).val; rw [k0_off3_eq, h0]; rfl
    | 1 => show (x 1).val = k0_off3 k 1 + 1 * (x 1).val; rw [k0_off3_eq]; show (x 1).val = 0 + 1 * (x 1).val; omega
  refine subf_at (e1.trans ?_) (e2.trans ?_)
  · rw [rowRect_emb]
    exact if_neg (by show ¬ 32 * k.val + c.val < 32 * k.val; omega)
  · rw [e3]
    refine congrArg C (congrArg (fun r => ix2 r (x 1)) (Fin.ext ?_))
    show 128 * w.val + k.val = (4096 * w.val + (32 * k.val + c.val)) / 32
    omega

theorem writes_stores (X : Buf (Elt F) (xLoc d)) (G : Buf (Elt F) (gLoc d)) (C : Buf (Elt F) (cLoc d)) (w : Fin 32) (k : Fin k0_t1_loop.trips) :
    View.writes (rV).view (Elt F) (st w X G C (32 * k.val)) (stores (st w X G C (32 * k.val)) (cen w C) k) = st w X G C (32 * (k.val + 1)) := by
  refine funext fun y => ?_
  have hk := trips_lt k
  have hmem : ∀ c : Fin 32, c ∈ rowsDown := by decide
  by_cases hy : 32 * k.val ≤ (y 0).val ∧ (y 0).val < 32 * (k.val + 1)
  · have := View.read_writes_apply_of_pieces (v := (rV).view) (f := st w X G C (32 * k.val)) (fun y => OUT X G C (ix2 (blk w (y 0)) (y 1)))
      (stores (st w X G C (32 * k.val)) (cen w C) k) (fun p hp x => by
        obtain ⟨c, -, rfl⟩ := List.mem_map.mp hp
        show rowVal _ _ k c x = _
        rw [rowVal_apply, rowRect_emb]; rfl) y
      ⟨_, List.mem_map.mpr ⟨⟨(y 0).val - 32 * k.val, by omega⟩, hmem _, rfl⟩, by
        rw [Rect.mem_set_unit, k0_off4_eq]
        intro a
        match a with
        | 0 => show 32 * k.val + ((y 0).val - 32 * k.val) ≤ (y 0).val ∧ (y 0).val < 32 * k.val + ((y 0).val - 32 * k.val) + 1; omega
        | 1 => show 0 ≤ (y 1).val ∧ (y 1).val < 0 + 16; have : (y 1).val < 16 := (y 1).isLt; omega⟩
    refine this.trans ?_
    unfold st; rw [if_pos hy.2]
  · refine (View.read_writes_apply_of_forall_not_mem (v := (rV).view) (f := st w X G C (32 * k.val)) y (stores (st w X G C (32 * k.val)) (cen w C) k) ?_).trans ?_
    · intro p hp hm
      obtain ⟨c, -, rfl⟩ := List.mem_map.mp hp
      have hm' : y ∈ (rowRect k c).set := hm
      rw [rowRect, Rect.mem_set_unit, k0_off4_eq] at hm'
      have h := hm' 0
      have h1 : 32 * k.val + c.val ≤ (y 0).val := h.1
      have h2 : (y 0).val < 32 * k.val + c.val + 1 := h.2
      omega
    · by_cases h : (y 0).val < 32 * k.val
      · have h' : (y 0).val < 32 * (k.val + 1) := by omega
        exact (if_pos h).trans (if_pos h').symm
      · have h' : ¬ (y 0).val < 32 * (k.val + 1) := by omega
        exact (if_neg h).trans (if_neg h').symm

set_option maxHeartbeats 4000000 in
theorem trip (X : Buf (Elt F) (xLoc d)) (G : Buf (Elt F) (gLoc d)) (C : Buf (Elt F) (cLoc d)) (k : Fin k0_t1_loop.trips) (a : BitVec 32) :
    inv d L X G C k.val a ⊢ wp frame (wpE (defs₀ (F := F)) 𝒱₀ (thr d L) none) Set.univ
      (k0_t1_body L xV (Memref.isWhole_whole _) gV (Memref.isWhole_whole _) cV (Memref.isWhole_whole _) oV (Memref.isWhole_whole _)
            sV (Memref.isWhole_whole _) rV (Memref.isWhole_whole _) nV (Memref.isWhole_whole _) cc0_scratch3 cc0_scoped0 cc0_scoped1 cc0_scoped2 k a)
      (inv d L X G C (k.val + 1)) := by
  unfold inv k0_t1_body
  iintro ⟨Hn, Hr⟩
  sl_exec
  sl_step
  istop
  exact sep_mono .rfl (Entails.of_eq (congrArg (fun f => ((rV).view.loc (thr d L) ↦{fullShare} f : sProp 𝕄)) (writes_stores d X G C (wid L) k)))

/-! ## What each transfer lands -/

abbrev growK (L : grid0.Coords) : Rect S131072 := Rect.unit (s := S131072) (k0_off1 L) S4096.size (k0_off1_inb L)
abbrev gRowK (L : grid0.Coords) : Memref sig .scVector .hbm S4096 .i32 := (gV).slice (growK L) (fun _ => rfl)
abbrev crowK (L : grid0.Coords) : Rect S4096x16 := Rect.unit (s := S4096x16) (k0_off2 L) S128x16.size (k0_off2_inb L)
abbrev cRowK (L : grid0.Coords) : Memref sig .scVector .hbm S128x16 .f32 := (cV).slice (crowK L) (fun _ => rfl)
/-- The padded points, whole, as the task addresses them. -/
abbrev xAllR : Rect S65536x16 := Rect.unit (s := S65536x16) ![0, 0] S65536x16.size inb_S65536x16_S65536x16_0_0
abbrev xAllK : Memref sig .scVector .hbm S65536x16 .f32 := (xV).slice xAllR (fun _ => rfl)

theorem lst_landed (G : Buf (Elt F) (gLoc d)) (f : S4096.Idx → Elt F .i32) :
    View.write (Elt F) (sV).view f ((gRowK L).view.read (Elt F) G) Finset.univ = lst (wid L) G := by
  rw [View.write_whole_univ]
  funext j
  refine (show (gRowK L).view.read (Elt F) G j = G ((growK L).emb j) from rfl).trans (congrArg G ?_)
  refine Rect.emb_eq_of_coords (growK L) j _ fun a => ?_
  match a with
  | 0 => show 4096 * (2 * (L 1).val + (L 0).val) + (j 0).val = k0_off1 L 0 + 1 * (j 0).val
         rw [k0_off1_eq]; show _ = 8192 * (L 1).val + 4096 * (L 0).val + 1 * (j 0).val; omega

theorem cen_landed (C : Buf (Elt F) (cLoc d)) (f : S128x16.Idx → Elt F .f32) :
    View.write (Elt F) (nV).view f ((cRowK L).view.read (Elt F) C) Finset.univ = cen (wid L) C := by
  rw [View.write_whole_univ]
  funext j
  refine (show (cRowK L).view.read (Elt F) C j = C ((crowK L).emb j) from rfl).trans (congrArg C ?_)
  refine Rect.emb_eq_of_coords (crowK L) j _ fun a => ?_
  match a with
  | 0 => show 128 * (2 * (L 1).val + (L 0).val) + (j 0).val = k0_off2 L 0 + 1 * (j 0).val
         rw [k0_off2_eq]; show _ = 256 * (L 1).val + 128 * (L 0).val + 1 * (j 0).val; omega
  | 1 => show (j 1).val = k0_off2 L 1 + 1 * (j 1).val
         rw [k0_off2_eq]; show _ = 0 + 1 * (j 1).val; omega

theorem lst_inb (w : Fin 32) (G : S131072.Idx → Elt F .i32) (hG : ∀ j : S131072.Idx, (G j).toNat < 65536) :
    ∀ x, ((sV).view.read (Elt F) (lst w G) x).toNat < S65536x16.size gathers_S65536x16_S4096x16.axis := fun x => hG _

theorem rows_landed (X : Buf (Elt F) (xLoc d)) (G : Buf (Elt F) (gLoc d)) (C : Buf (Elt F) (cLoc d)) (w : Fin 32)
    (hG : ∀ j : S131072.Idx, (G j).toNat < 65536) (f : S4096x16.Idx → Elt F .f32) :
    View.write (Elt F) (rV).view f (SparseCore.gatherPayload gathers_S65536x16_S4096x16 ((xAllK).view.read (Elt F) X)
      (SparseCore.rows ((sV).view.read (Elt F) (lst w G)) rfl (lst_inb w G hG))) Finset.univ = st w X G C 0 := by
  rw [View.write_whole_univ]
  funext y
  refine Eq.trans ?_ (if_neg (by omega)).symm
  refine (show _ = X ((xAllR).emb (gathers_S65536x16_S4096x16.idx (SparseCore.rows ((sV).view.read (Elt F) (lst w G)) rfl (lst_inb w G hG)) y)) from rfl).trans (congrArg X ?_)
  refine Rect.emb_eq_of_coords xAllR _ _ fun a => ?_
  match a with
  | 0 =>
    rw [show gathers_S65536x16_S4096x16.idx (SparseCore.rows ((sV).view.read (Elt F) (lst w G)) rfl (lst_inb w G hG)) y 0
      = SparseCore.rows ((sV).view.read (Elt F) (lst w G)) rfl (lst_inb w G hG) (y 0) from Shape.Gathers.idx_axis _ _ _]
    have e (k : Fin 4096) : S4096.rowMajor.symm (Fin.cast (rfl : S4096.size 0 = S4096.numel) k) = ix1 k :=
      (Equiv.symm_apply_eq _).mpr (Fin.ext (Shape.rowMajor_val_one (ix1 k)).symm)
    show (G (ix1 (blk w (y 0)))).toNat % 65536 = 0 + 1 * (lst w G (S4096.rowMajor.symm _)).toNat
    rw [Nat.mod_eq_of_lt (hG _), Nat.zero_add, Nat.one_mul]
    exact congrArg (fun i => (lst w G i).toNat) (e (y 0)).symm
  | 1 =>
    rw [show (gathers_S65536x16_S4096x16.idx (SparseCore.rows ((sV).view.read (Elt F) (lst w G)) rfl (lst_inb w G hG)) y 1).val = (y 1).val from
      Shape.Gathers.idx_of_ne _ _ _ _ (by decide)]
    show (y 1).val = 0 + 1 * (y 1).val
    omega

theorem orowK_emb (x : S4096x16.Idx) : (orowK L).emb x = ix2 (blk (wid L) (x 0)) (x 1) := by
  refine Rect.emb_eq_of_coords (orowK L) x _ fun a => ?_
  match a with
  | 0 => show 4096 * (2 * (L 1).val + (L 0).val) + (x 0).val = k0_off5 L 0 + 1 * (x 0).val
         rw [k0_off5_eq]; show _ = 8192 * (L 1).val + 4096 * (L 0).val + 1 * (x 0).val; omega
  | 1 => show (x 1).val = k0_off5 L 1 + 1 * (x 1).val
         rw [k0_off5_eq]; show _ = 0 + 1 * (x 1).val; omega

/-- The task's rows of the result once the row buffer `R` is written over them. -/
abbrev written (f : Buf (Elt F) (oLoc d)) (R : S4096x16.Idx → Elt F .f32) : S131072x16.Idx → Elt F .f32 :=
  (oRowK L).view.writes (Elt F) f [⟨Rect.whole S4096x16, (rV).view.read (Elt F) R⟩]

theorem written_at (f : Buf (Elt F) (oLoc d)) (R : S4096x16.Idx → Elt F .f32) (x : S4096x16.Idx) :
    written d L f R ((oRowK L).view.emb x) = R x := by
  have h := congrFun (View.read_writes_whole (oRowK L).view f ((rV).view.read (Elt F) R)) x
  rw [View.read_apply] at h
  exact (cast_eq _ _).symm.trans (h.trans rfl)

/-- The row buffer, every row done, written to the task's rows of the result is `OUT` there. -/
theorem out_landed (X : Buf (Elt F) (xLoc d)) (G : Buf (Elt F) (gLoc d)) (C : Buf (Elt F) (cLoc d)) (f : Buf (Elt F) (oLoc d)) :
    ((oRowK L).view.loc (thr d L) ↦[(oRowK L).view.set]{fullShare} written d L f (st (wid L) X G C 4096) : sProp 𝕄)
      = oCh d (wid L) (OUT X G C) := by
  refine Eq.trans (pointsTo_congr fun i hi => ?_) (pts_oRowK (F := F) d L (OUT X G C))
  obtain ⟨x, -, rfl⟩ := Finset.mem_map.mp (show i ∈ Finset.univ.map (oRowK L).view.emb from hi)
  rw [written_at]
  refine Eq.trans ?_ (congrArg (OUT X G C) (show (oRowK L).view.emb x = ix2 (blk (wid L) (x 0)) (x 1) from orowK_emb L x)).symm
  exact if_pos (x 0).isLt

set_option maxHeartbeats 4000000 in
theorem tile_body (hF : (K (F := F)).Facts) (X : Buf (Elt F) (xLoc d)) (G : Buf (Elt F) (gLoc d)) (C : Buf (Elt F) (cLoc d)) (O₀ : Buf (Elt F) (oLoc d))
    (hG : ∀ j : S131072.Idx, (G j).toNat < 65536)
    (O : CellTallies nD τ sig (HIx 1)) (W : Waits sig (HIx 1)) (hO : ∀ g, O g none = 0) :
    iprop(levAts (K (F := F)).L (K (F := F)).lev ∗ emp
        ∗ (xSh d (wid L) X ∗ gSh d (wid L) G ∗ cSh d (wid L) C ∗ oCh d (wid L) O₀)
        ∗ scopedBufs (thr d L) ∗ scopedSems0 (thr d L) ∗ owes (thr d L) O W)
      ⊢ wp frame (wpE (defs₀ (F := F)) 𝒱₀ (thr d L) none) Set.univ
          (cc0__gather_body L xV (Memref.isWhole_whole _) gV (Memref.isWhole_whole _) cV (Memref.isWhole_whole _) oV (Memref.isWhole_whole _)
            sV (Memref.isWhole_whole _) rV (Memref.isWhole_whole _) nV (Memref.isWhole_whole _) cc0_scratch3 cc0_scoped0 cc0_scoped1 cc0_scoped2)
          fun _ => iprop((xSh d (wid L) X ∗ gSh d (wid L) G ∗ cSh d (wid L) C ∗ oCh d (wid L) (OUT X G C))
            ∗ scopedBufs (thr d L) ∗ scopedSems0 (thr d L)
            ∗ ∃ W', ⌜∀ p ∈ W', p ∈ W ∨ p.2 = none⌝ ∗ owes (thr d L) O W') := by
  simp only [cc0__gather_body_eq_skeleton]; unfold cc0__gather_body_skel
  rw [(K (F := F)).scopedBufs_V hF d (coreV L) (subV L), SparseCore.Cfg.scopedSems0_V (Val := Elt F) d (coreV L) (subV L), ownSems0_V, ownBufs_V]
  iintro ⟨#Hlv, -, ⟨Hx, Hg, Hc, Ho⟩, ⟨⟨%fs, Hs⟩, ⟨%fr, Hr⟩, ⟨%fn, Hn⟩, Hbufs⟩, ⟨HsemG, HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  ihave Hx' := (Entails.of_eq (show (xLoc d ↦{shr (wid L)} X : sProp 𝕄) = (xV).view.loc (thr d L) ↦{shr (wid L)} X from rfl)) $$ Hx
  ihave Hg' := (Entails.of_eq (show (gLoc d ↦{shr (wid L)} G : sProp 𝕄) = (gV).view.loc (thr d L) ↦{shr (wid L)} G from rfl)) $$ Hg
  ihave Hc' := (Entails.of_eq (show (cLoc d ↦{shr (wid L)} C : sProp 𝕄) = (cV).view.loc (thr d L) ↦{shr (wid L)} C from rfl)) $$ Hc
  ihave Ho' := (Entails.of_eq (pts_oRowK (F := F) d L _).symm) $$ Ho
  ihave Hs' := (Entails.of_eq (show ((thr d L).loc cc0_scratch0 ↦{fullShare} fs : sProp 𝕄) = (sV).view.loc (thr d L) ↦{fullShare} fs from rfl)) $$ Hs
  ihave Hr' := (Entails.of_eq (show ((thr d L).loc cc0_scratch1 ↦{fullShare} fr : sProp 𝕄) = (rV).view.loc (thr d L) ↦{fullShare} fr from rfl)) $$ Hr
  ihave Hn' := (Entails.of_eq (show ((thr d L).loc cc0_scratch2 ↦{fullShare} fn : sProp 𝕄) = (nV).view.loc (thr d L) ↦{fullShare} fn from rfl)) $$ Hn
  sl_exec
  have hrs : (rV).view.set = Finset.univ := View.set_whole _
  have hss : (sV).view.set = Finset.univ := View.set_whole _
  ihave Hs'' := (Entails.of_eq (show ((sV).view.loc (thr d L) ↦{fullShare} View.write (Elt F) (sV).view fs (tile_body.sl.dma0 d L G) Finset.univ : sProp 𝕄)
      = (sV).view.loc (thr d L) ↦[(sV).view.set]{fullShare} lst (wid L) G by
        rw [hss]; exact congrArg (fun f => ((sV).view.loc (thr d L) ↦{fullShare} f : sProp 𝕄)) (lst_landed d L G fs))) $$ Hs'
  ihave Hn'' := (Entails.of_eq (show ((nV).view.loc (thr d L) ↦{fullShare} View.write (Elt F) (nV).view fn (tile_body.sl.dma0_1 d L C) Finset.univ : sProp 𝕄)
      = (nV).view.loc (thr d L) ↦{fullShare} cen (wid L) C
      from congrArg (fun f => ((nV).view.loc (thr d L) ↦{fullShare} f : sProp 𝕄)) (cen_landed d L C fn))) $$ Hn'
  ihave Hr'' := (Entails.of_eq (show ((rV).view.loc (thr d L) ↦{fullShare} fr : sProp 𝕄)
      = (rV).view.loc (thr d L) ↦[(rV).view.set]{fullShare} fr by rw [hrs])) $$ Hr'
  ihave Hxs := (pointsTo_split_subset (q := shr (wid L)) (f := X) (S := Finset.univ) (Finset.subset_univ (xAllK).view.set)).1 $$ Hx'
  icases Hxs with ⟨Hxs, Hxr⟩
  iapply (SparseCore.wp_indirectGatherLocal countersEmb 𝒱₀ (thr d L) none (hg := gathers_S65536x16_S4096x16) (default : HIx 1)
      (rV).view.dmaCredit (SparseCore.sum_rowCredit_eq_dmaCredit (rV) _ fun _ => rfl) (by decide) (lst_inb (wid L) G hG)) $$ [Hxs Hr'' Hs'' HsemG]
  · isplitl [Hxs]; · iexact Hxs
    isplitl [Hr'']; · iexact Hr''
    isplitl [Hs'']; · iexact Hs''
    iexact HsemG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma cc0_scratch3.sem)) $$ Hmw
  iintro ⟨⟨Hr', Hxs, Hs'⟩, HsemG, HO⟩
  ihave Hx' := (pointsTo_split_subset (q := shr (wid L)) (f := X) (S := Finset.univ) (Finset.subset_univ (xAllK).view.set)).2 $$ [Hxs Hxr]; · isplitl [Hxs] <;> iassumption
  ihave Hr3 := (Entails.of_eq (show ((rV).view.loc (thr d L) ↦[(rV).view.set]{fullShare} View.write (Elt F) (rV).view fr
        (SparseCore.gatherPayload gathers_S65536x16_S4096x16 ((xAllK).view.read (Elt F) X)
          (SparseCore.rows ((sV).view.read (Elt F) (lst (wid L) G)) rfl (lst_inb (wid L) G hG))) Finset.univ : sProp 𝕄)
      = (rV).view.loc (thr d L) ↦{fullShare} st (wid L) X G C (32 * 0) by
        rw [hrs]; exact congrArg (fun f => ((rV).view.loc (thr d L) ↦{fullShare} f : sProp 𝕄)) (rows_landed d X G C (wid L) hG fr))) $$ Hr'
  ihave Hs3 := (Entails.of_eq (show ((sV).view.loc (thr d L) ↦[(sV).view.set]{fullShare} lst (wid L) G : sProp 𝕄)
      = (sV).view.loc (thr d L) ↦{fullShare} lst (wid L) G by rw [hss])) $$ Hs'
  sl_exec
  sl_for (inv d L X G C) $$ [Hn'' Hr3]
  case region => intro k a; exact trip d L X G C k a
  · unfold inv; isplitl [Hn''] <;> iassumption
  iintro %_ HI
  unfold inv
  icases HI with ⟨Hn3, Hr4⟩
  sl_exec
  sl_step
  isplitl [Hg' Hc' Hx' Ho']
  · isplitl [Hx']; · iexact Hx'
    isplitl [Hg']; · iexact Hg'
    isplitl [Hc']; · iexact Hc'
    iapply (Entails.of_eq (show ((oRowK L).view.loc (thr d L) ↦[(oRowK L).view.set]{fullShare} (oRowK L).view.writes (Elt F) O₀
        [⟨Rect.whole S4096x16, tile_body.sl.dma0_2 d L X G C⟩] : sProp 𝕄) = oCh d (wid L) (OUT X G C) from out_landed d L X G C O₀)) $$ Ho'
  isplitl [Hs3 Hr4 Hn3 Hbufs]
  · isplitl [Hs3]; · iexists _; iexact Hs3
    isplitl [Hr4]; · iexists _; iexact Hr4
    isplitl [Hn3]; · iexists _; iexact Hn3
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile
end Cert.Proof.GatherIdeal
end
-- ==== Proof.GatherIdealLaunch.lean ====
/-
  The SparseCore call inside its @main: the host operations that pad the points and the centres, the call with its
  thirty-two tasks — every task a share of the padded points, the row numbers and the padded centres, and its own rows of
  the result — and the host operations that read the first three columns of what it wrote. Every buffer is carried at its
  contents: before the call `V₁`, after it `V₂` (the result at `OUT`), at the end `V₃`.
-/
module

public import proofs.«01_k».proof.Proof.GatherIdealTile
public import Idealize.ShloMosaic.Lib.Pipeline.Frame

@[expose] public section

noncomputable section

namespace Cert.Proof.GatherIdeal

open Cert.GatherIdeal Cert.GatherIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)
open Idealize.ShloMosaic.Pipeline (ucRefs)

variable {F : FTy → Type}

local notation "𝕄" => MT nD τ sig (HIx 1) (Elt F) ℕ UU ℕ

local notation "xV" => (Memref.whole Cert.GatherIdeal.main_v1_scv : Memref Cert.GatherIdeal.sig Kind.scVector Space.hbm Cert.GatherIdeal.S65536x16 EltTy.f32)
local notation "gV" => (Memref.whole Cert.GatherIdeal.main_v4_scv : Memref Cert.GatherIdeal.sig Kind.scVector Space.hbm Cert.GatherIdeal.S131072 EltTy.i32)
local notation "cV" => (Memref.whole Cert.GatherIdeal.main_v3_scv : Memref Cert.GatherIdeal.sig Kind.scVector Space.hbm Cert.GatherIdeal.S4096x16 EltTy.f32)
local notation "oV" => (Memref.whole Cert.GatherIdeal.main_v5_scv : Memref Cert.GatherIdeal.sig Kind.scVector Space.hbm Cert.GatherIdeal.S131072x16 EltTy.f32)
local notation "sV" => (Memref.whole Cert.GatherIdeal.cc0_scratch0 : Memref Cert.GatherIdeal.sig Kind.scVector Space.vmem Cert.GatherIdeal.S4096 EltTy.i32)
local notation "rV" => (Memref.whole Cert.GatherIdeal.cc0_scratch1 : Memref Cert.GatherIdeal.sig Kind.scVector Space.vmem Cert.GatherIdeal.S4096x16 EltTy.f32)
local notation "nV" => (Memref.whole Cert.GatherIdeal.cc0_scratch2 : Memref Cert.GatherIdeal.sig Kind.scVector Space.vmem Cert.GatherIdeal.S128x16 EltTy.f32)

abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-! ## @main's host operations -/

/-- Before the call: the points padded to sixteen columns, the centres likewise, the row numbers in one list. -/
def ops₀ : List (HloOp τ sig (Elt F)) :=
  [StableHlo.reshape main_arg0 main_v0 (rfl : (.f32 : EltTy) = .f32) shapeCasts_S8x8192x3_S65536x3,
   StableHlo.nullary main_c (constantI S_ 32 0#32),
   StableHlo.TRef.unary (.of main_c : StableHlo.TRef sig ⟨S_, .i32⟩) main_call0.v0 (sitofp .f32),
   StableHlo.TRef.binary (.of main_v0 : StableHlo.TRef sig ⟨S65536x3, .f32⟩) main_call0.v0 main_call0.v1 (fun x v => pad S65536x16 ![0, 0] ![0, 13] ![0, 0] x v pads_S65536x3_S65536x16_000_0130 h_S_),
   StableHlo.reshape main_arg2 main_v2 (rfl : (.f32 : EltTy) = .f32) shapeCasts_S8x512x3_S4096x3,
   StableHlo.nullary main_c_0 (constantI S_ 32 0#32),
   StableHlo.TRef.unary (.of main_c_0 : StableHlo.TRef sig ⟨S_, .i32⟩) main_call1.v0 (sitofp .f32),
   StableHlo.TRef.binary (.of main_v2 : StableHlo.TRef sig ⟨S4096x3, .f32⟩) main_call1.v0 main_call1.v1 (fun x v => pad S4096x16 ![0, 0] ![0, 13] ![0, 0] x v pads_S4096x3_S4096x16_000_0130 h_S_),
   StableHlo.reshape main_arg1 main_v4 (rfl : (.i32 : EltTy) = .i32) shapeCasts_S8x512x32_S131072]

/-- After it: the first three columns. -/
def ops₁ : List (HloOp τ sig (Elt F)) :=
  [StableHlo.reshape main_v5 main_v6 (rfl : (.f32 : EltTy) = .f32) shapeCasts_S131072x16_S8x512x32x16,
   StableHlo.unary main_v6 main_v7 ((extractStridedSlice S8x512x32x3 ![0, 0, 0, 0] · slices_S8x512x32x16_S8x512x32x3_0_0_0_0) : (⟨S8x512x32x16, .f32⟩ : BufTy).Contents (Elt F) → (⟨S8x512x32x3, .f32⟩ : BufTy).Contents (Elt F))]

theorem main_eq (d : Dev nD) : main (F := F) d = (seq ops₀ >>= fun _ => (sc.run d 0 >>= fun _ => (seq ops₁ >>= fun _ => pure ⟨⟩))) := rfl

abbrev U : Finset (DevRef τ sig) := ucRefs τ sig

theorem ops₀_sub : ∀ op ∈ ops₀ (F := F), op.bufs ⊆ U := fun op h => Pipeline.sub_ucRefs op (by
  revert op
  rw [← List.forall_iff_forall_mem]
  exact ⟨StableHlo.reshape_bufs_sub .., StableHlo.nullary_bufs_sub .., StableHlo.unary_bufs_sub .., StableHlo.binary_bufs_sub .., StableHlo.reshape_bufs_sub ..,
    StableHlo.nullary_bufs_sub .., StableHlo.unary_bufs_sub .., StableHlo.binary_bufs_sub .., StableHlo.reshape_bufs_sub ..⟩)
theorem ops₁_sub : ∀ op ∈ ops₁ (F := F), op.bufs ⊆ U := fun op h => Pipeline.sub_ucRefs op (by
  revert op
  rw [← List.forall_iff_forall_mem]
  exact ⟨StableHlo.reshape_bufs_sub .., StableHlo.unary_bufs_sub ..⟩)
theorem ops₀_fresh : ∀ op ∈ ops₀ (F := F), op.fresh = ∅ :=
  List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, fun _ h => absurd h List.not_mem_nil⟩⟩⟩⟩⟩⟩⟩⟩⟩
theorem ops₁_fresh : ∀ op ∈ ops₁ (F := F), op.fresh = ∅ :=
  List.forall_mem_cons.2 ⟨rfl, List.forall_mem_cons.2 ⟨rfl, fun _ h => absurd h List.not_mem_nil⟩⟩

/-! ## The contents of the buffers along @main -/

variable (m : (ℓ : Loc nD τ sig) → Buf (Elt F) ℓ) (ρ : Dev nD → PrngReg)

abbrev x' : DevRef τ sig := Proc.devRef .tc main_v1
abbrev g' : DevRef τ sig := Proc.devRef .tc main_v4
abbrev c' : DevRef τ sig := Proc.devRef .tc main_v3
abbrev o' : DevRef τ sig := Proc.devRef .tc main_v5

abbrev V₀ (d : Dev nD) : Valuation τ sig (Elt F) := fun b => m (d, b)
def V₁ (d : Dev nD) : Valuation τ sig (Elt F) := after ops₀ (V₀ m d)
abbrev X (d : Dev nD) : Buf (Elt F) (xLoc d) := V₁ m d x'
abbrev G (d : Dev nD) : Buf (Elt F) (gLoc d) := V₁ m d g'
abbrev C (d : Dev nD) : Buf (Elt F) (cLoc d) := V₁ m d c'
abbrev O₀ (d : Dev nD) : Buf (Elt F) (oLoc d) := V₁ m d o'
def V₂ (d : Dev nD) : Valuation τ sig (Elt F) := Function.update (V₁ m d) o' (OUT (X m d) (G m d) (C m d))
def V₃ (d : Dev nD) : Valuation τ sig (Elt F) := after ops₁ (V₂ m d)

/-- What the proof asks of the launch memory: every row number, as the call reads them, names a row of the points. -/
def PreOK : Prop := ∀ (d : Dev nD) (j : S131072.Idx), (G m d j).toNat < 65536

/-! ## What the handshakes carry -/

/-- The number of the task on subcore `i` of SparseCore `c`. -/
def num (c : Fin 2) (i : Fin 16) : Fin 32 := ⟨2 * i.val + c.val, by omega⟩

abbrev piece (d : Dev nD) (f : Buf (Elt F) (oLoc d)) (w : Fin 32) : sProp 𝕄 :=
  iprop(xSh d w (X m d) ∗ gSh d w (G m d) ∗ cSh d w (C m d) ∗ oCh d w f)

abbrev share (d : Dev nD) (f : Buf (Elt F) (oLoc d)) (c : Fin 2) : sProp 𝕄 := bigSep Finset.univ fun i : Fin 16 => piece m d f (num c i)

/-- A SparseCore takes its sixteen tasks' pieces and brings them back, the result's rows written. -/
def P : (K (F := F)).Pay (nD := nD) (Val := Elt F) (Name := ℕ) (U := UU) where
  st := fun q d c => match q with | 0 => share m d (O₀ m d) c
  dn := fun q d c => match q with | 0 => share m d (OUT (X m d) (G m d) (C m d)) c
  go := fun q d c i => match q with | 0 => piece m d (O₀ m d) (num c i)
  td := fun q d c i => match q with | 0 => piece m d (OUT (X m d) (G m d) (C m d)) (num c i)
  x := fun _ _ => iprop(emp)

instance P_storable : (P (F := F) m).IsStorable where
  st q d c := match q with | 0 => (inferInstance : BI.Storable (upEmb : UEmb _ 𝕄) (share m d (O₀ m d) c))
  dn q d c := match q with | 0 => (inferInstance : BI.Storable (upEmb : UEmb _ 𝕄) (share m d (OUT (X m d) (G m d) (C m d)) c))
  go q d c i := match q with | 0 => (inferInstance : BI.Storable (upEmb : UEmb _ 𝕄) (piece m d (O₀ m d) (num c i)))
  td q d c i := match q with | 0 => (inferInstance : BI.Storable (upEmb : UEmb _ 𝕄) (piece m d (OUT (X m d) (G m d) (C m d)) (num c i)))

/-! ## The tasks -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s) xV (Memref.isWhole_whole _) gV (Memref.isWhole_whole _) cV (Memref.isWhole_whole _)
          oV (Memref.isWhole_whole _) sV (Memref.isWhole_whole _) rV (Memref.isWhole_whole _) nV (Memref.isWhole_whole _)
          cc0_scratch3 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (X m d) (G m d) (C m d) (O₀ m d) (hpre d) O W hO).trans (wp_mono frame _ _ fun _ => obl_post)

theorem vecSplit : (K (F := F)).VecSplit' (P m) 0 := by
  intro d c
  show share m d (O₀ m d) c ⊢ |={Set.univ}=> iprop(share m d (O₀ m d) c ∗ (share m d (OUT (X m d) (G m d) (C m d)) c -∗ share m d (OUT (X m d) (G m d) (C m d)) c))
  iintro H; imodintro
  isplitl [H]; · iexact H
  iintro H; iexact H

/-! ## The arrays, split among the tasks and joined again -/

omit [FloatOps F] in
theorem oSet_eq (w : Fin 32) : oSet w = (orow w).set := by
  show ((View.whole (main_v5_scv : Ref sig .scVector)).slice (orow w)).set = _
  rw [View.set_slice]; exact Finset.map_refl

omit [FloatOps F] in
theorem oSet_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h

omit [FloatOps F] in
theorem oSet_cover : (Finset.univ : Finset (Fin 32)).biUnion oSet = Finset.univ :=
  (Finset.biUnion_congr rfl fun i _ => oSet_eq i).trans (Rect.biUnion_part odiv)

omit [FloatOps F] in
theorem oPts_rows (d : Dev nD) (f : Buf (Elt F) (oLoc d)) :
    (oLoc d ↦{fullShare} f : sProp 𝕄) = bigSep Finset.univ fun w : Fin 32 => oCh d w f := by
  rw [← pointsTo_biUnion Finset.univ (ℓ := oLoc d) oSet oSet_disjoint, oSet_cover]; try rfl

/-- The tasks, as the launch lists them: by SparseCore, then by subcore. -/
def tasks : Fin 2 × Fin 16 ≃ Fin 32 := (Equiv.prodComm _ _).trans finProdFinEquiv

omit [FloatOps F] in
theorem tasks_eq (c : Fin 2) (i : Fin 16) : tasks (c, i) = num c i := Fin.ext (by simp [tasks, num, finProdFinEquiv]; omega)

omit [FloatOps F] in
theorem bigSep_tasks (Φ : Fin 32 → sProp 𝕄) :
    (bigSep Finset.univ fun c : Fin 2 => bigSep Finset.univ fun i : Fin 16 => Φ (num c i)) = bigSep Finset.univ Φ := by
  rw [bigSep_univ_equiv tasks Φ, bigSep_univ_prod]
  exact bigSep_congr fun c _ => bigSep_congr fun i _ => by rw [tasks_eq]

/-- The four arrays of the call, whole, are the tasks' pieces. -/
theorem shares_eq (d : Dev nD) (f : Buf (Elt F) (oLoc d)) :
    (bigSep Finset.univ fun c : Fin 2 => share m d f c)
      = iprop((xLoc d ↦{fullShare} X m d) ∗ (gLoc d ↦{fullShare} G m d) ∗ (cLoc d ↦{fullShare} C m d) ∗ (oLoc d ↦{fullShare} f)) := by
  have hn : (Finset.univ : Finset (Fin 32)).Nonempty := ⟨0, Finset.mem_univ _⟩
  rw [bigSep_tasks (fun w => piece m d f w), bigSep_sep', bigSep_sep', bigSep_sep', oPts_rows, Transfers.pointsTo_deal (ℓ := xLoc d) Finset.univ hn fullShare,
    Transfers.pointsTo_deal (ℓ := gLoc d) Finset.univ hn fullShare, Transfers.pointsTo_deal (ℓ := cLoc d) Finset.univ hn fullShare]

/-! ## The launch element of the certificate's ghost state -/

omit [FloatOps F] in
theorem bigSep_nothing {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## @main on the TensorCore -/

abbrev T4 : Finset (DevRef τ sig) := {x', g', c', o'}

omit [FloatOps F] in
theorem T4_sub : T4 ⊆ U := by
  intro b hb
  rcases Finset.mem_insert.mp hb with rfl | hb; · exact Finset.mem_filter.mpr ⟨StableHlo.devRef_mem_tcRefs _, by decide⟩
  rcases Finset.mem_insert.mp hb with rfl | hb; · exact Finset.mem_filter.mpr ⟨StableHlo.devRef_mem_tcRefs _, by decide⟩
  rcases Finset.mem_insert.mp hb with rfl | hb; · exact Finset.mem_filter.mpr ⟨StableHlo.devRef_mem_tcRefs _, by decide⟩
  rw [Finset.mem_singleton.mp hb]; exact Finset.mem_filter.mpr ⟨StableHlo.devRef_mem_tcRefs _, by decide⟩

omit [FloatOps F] in
theorem held_T4 (d : Dev nD) (W : Valuation τ sig (Elt F)) :
    (held (T d) T4 W : sProp 𝕄)
      = iprop((xLoc d ↦{fullShare} W x') ∗ (gLoc d ↦{fullShare} W g') ∗ (cLoc d ↦{fullShare} W c') ∗ (oLoc d ↦{fullShare} W o')) := by
  unfold held T4
  rw [SparseCore.bigSep_insert' (by decide), SparseCore.bigSep_insert' (by decide), SparseCore.bigSep_insert' (by decide), bigSep_singleton]

theorem V₂_o (d : Dev nD) : V₂ m d o' = OUT (X m d) (G m d) (C m d) := by unfold V₂; exact Function.update_self ..
theorem V₂_ne (d : Dev nD) {b : DevRef τ sig} (h : b ≠ o') : V₂ m d b = V₁ m d b := by unfold V₂; exact Function.update_of_ne h ..

/-- Before the call: the unscoped buffers are the call's shares and the rest. -/
theorem held_before (d : Dev nD) :
    (held (T d) U (V₁ m d) : sProp 𝕄) = iprop((bigSep Finset.univ fun c : Fin 2 => share m d (O₀ m d) c) ∗ held (T d) (U \ T4) (V₁ m d)) := by
  rw [StableHlo.held_sub_split (T d) T4_sub, held_T4, shares_eq]

/-- After it: the same with the result written. -/
theorem held_after (d : Dev nD) :
    (held (T d) U (V₂ m d) : sProp 𝕄)
      = iprop((bigSep Finset.univ fun c : Fin 2 => share m d (OUT (X m d) (G m d) (C m d)) c) ∗ held (T d) (U \ T4) (V₁ m d)) := by
  rw [StableHlo.held_sub_split (T d) T4_sub, held_T4, shares_eq, V₂_o, V₂_ne m d (b := x') (by decide), V₂_ne m d (b := g') (by decide), V₂_ne m d (b := c') (by decide),
    StableHlo.held_congr (T d) (S := U \ T4) (V := V₂ m d) (V' := V₁ m d) (fun b hb => V₂_ne m d fun h => (Finset.mem_sdiff.mp hb).2 (h ▸ by decide))]

abbrev FIN (d : Dev nD) : sProp 𝕄 := held (T d) U (V₃ m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = held (T d) U (V₀ m d) from Pipeline.unscopedBufs_held d (V₀ m d), main_eq]
  iintro ⟨#Hctx, Hst, ⟨Hb, Hheld, Hts, -⟩, -⟩
  iapply (StableHlo.wp_seq 𝒱 none Set.univ d U _ ops₀ ops₀_sub ops₀_fresh (V₀ m d)) $$ [Hb Hheld]
  · isplitl [Hb] <;> iassumption
  iintro ⟨Hb, Hheld⟩
  rw [wp_bind]
  ihave Hh := (Entails.of_eq (show (held (T d) U (after ops₀ (V₀ m d)) : sProp 𝕄) = _ from held_before m d)) $$ Hheld
  icases Hh with ⟨Hsh, Hrest⟩
  iapply ((K (F := F)).wp_run (D (F := F)) 𝒱 (EH := EH) (P := P m) κ d 0) $$ [Hst Hsh Hrest Hb Hts]
  isplitr; · iexact Hctx
  isplitl [Hst]; · iexact Hst
  isplitl [Hsh]; · iexact Hsh
  iintro ⟨Hst, Hdn⟩
  ihave Hh := (Entails.of_eq (held_after m d).symm) $$ [Hdn Hrest]
  · isplitl [Hdn]; · iexact Hdn
    iexact Hrest
  iapply (StableHlo.wp_seq 𝒱 none Set.univ d U _ ops₁ ops₁_sub ops₁_fresh (V₂ m d)) $$ [Hb Hh]
  · isplitl [Hb] <;> iassumption
  iintro ⟨Hb, Hheld⟩
  rw [wp_pure]; imodintro
  isplitl [Hst]; · iexact Hst
  isplitl [Hheld]; · iexact Hheld
  isplitl [Hb] <;> iassumption

/-! ## The run -/

/-- What the claims read of device `d`'s final state: every buffer of @main at its final contents. -/
def fq (d : Dev nD) (s' : Phys nD τ sig (Elt F)) : Prop := ∀ b ∈ U, s'.mem.mem (d, b) = V₃ m d b

theorem hfin (d : Dev nD) (s' : Phys nD τ sig (Elt F)) : iprop(FIN m d ∗ SI s') ⊢ (⌜fq m d s'⌝ : sProp 𝕄) := by
  iintro ⟨H, HSI⟩
  ihave H' := (SI_pointsTo_bufs_agree (st := s') (c := d) (qs := fun _ => fullShare) (F := V₃ m d) U) $$ [HSI H]
  · isplitl [HSI]; · iexact HSI
    iapply (Entails.of_eq (show FIN m d = bigSep U (fun b => (d, b) ↦{fullShare} V₃ m d b) from rfl)); iexact H
  icases H' with %h
  ipureintro; exact h

def QC : PUnit × MemSt nD τ sig (Elt F) → Prop := fun r => (∀ c : Dev nD, ∀ b ∈ U, r.2.mem (c, b) = V₃ m c b) ∧ r.2.sem = fun _ => 0

theorem run_main [∀ e, Nonempty (Elt F e)] (hpre : PreOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.GatherIdeal

end
-- ==== Proof.GatherIdealRead.lean ====
/-
  What @main's buffers hold around the SparseCore call, as terms over the three arguments: the operands of the call
  (the points and the centres padded to sixteen columns, the row numbers in one list), the result, and the arguments
  themselves, unchanged at the end.
-/
module

public import proofs.«01_k».proof.Proof.GatherIdealLaunch
public import Idealize.ShloMosaic.Lib.StableHlo.ReadAt

@[expose] public section

noncomputable section

namespace Cert.Proof.GatherIdeal

open Cert.GatherIdeal Cert.GatherIdeal.Gen
open Idealize.ShloMosaic

variable {F : FTy → Type} [FloatOps F] (m : (ℓ : Loc nD τ sig) → Buf (Elt F) ℓ)

/-! ## The final contents of the arguments and the result -/

theorem V₃_arg0 (d : Dev nD) : V₃ m d (Proc.devRef .tc main_arg0) = m ((SparseCore.T d).loc main_arg0) := by
  refine Eq.trans (b := V₂ m d (Proc.devRef .tc main_arg0)) (by delta V₃ ops₁; after_reads_simp) ?_
  rw [V₂_ne m d (by decide)]
  delta V₁ ops₀
  after_reads_simp
theorem V₃_arg1 (d : Dev nD) : V₃ m d (Proc.devRef .tc main_arg1) = m ((SparseCore.T d).loc main_arg1) := by
  refine Eq.trans (b := V₂ m d (Proc.devRef .tc main_arg1)) (by delta V₃ ops₁; after_reads_simp) ?_
  rw [V₂_ne m d (by decide)]
  delta V₁ ops₀
  after_reads_simp
theorem V₃_arg2 (d : Dev nD) : V₃ m d (Proc.devRef .tc main_arg2) = m ((SparseCore.T d).loc main_arg2) := by
  refine Eq.trans (b := V₂ m d (Proc.devRef .tc main_arg2)) (by delta V₃ ops₁; after_reads_simp) ?_
  rw [V₂_ne m d (by decide)]
  delta V₁ ops₀
  after_reads_simp

/-- The row numbers the call reads are the second argument's, in one list. -/
theorem G_eq (d : Dev nD) : G m d = shapeCast S131072 (m ((SparseCore.T d).loc main_arg1)) shapeCasts_S8x512x32_S131072 := by
  delta G V₁ ops₀
  after_reads_simp
  rfl
theorem X_eq (d : Dev nD) : X m d = pad S65536x16 ![0, 0] ![0, 13] ![0, 0] (shapeCast S65536x3 (m ((SparseCore.T d).loc main_arg0)) shapeCasts_S8x8192x3_S65536x3)
    (sitofp .f32 (constantI S_ 32 0#32)) pads_S65536x3_S65536x16_000_0130 h_S_ := by
  delta X V₁ ops₀
  after_reads_simp
  rfl
theorem C_eq (d : Dev nD) : C m d = pad S4096x16 ![0, 0] ![0, 13] ![0, 0] (shapeCast S4096x3 (m ((SparseCore.T d).loc main_arg2)) shapeCasts_S8x512x3_S4096x3)
    (sitofp .f32 (constantI S_ 32 0#32)) pads_S4096x3_S4096x16_000_0130 h_S_ := by
  delta C V₁ ops₀
  after_reads_simp
  rfl
/-- The result is the first three columns of what the call wrote. -/
theorem V₃_v7 (d : Dev nD) : V₃ m d (Proc.devRef .tc main_v7)
    = extractStridedSlice S8x512x32x3 ![0, 0, 0, 0] (shapeCast S8x512x32x16 (OUT (X m d) (G m d) (C m d)) shapeCasts_S131072x16_S8x512x32x16)
        slices_S8x512x32x16_S8x512x32x3_0_0_0_0 := by
  delta V₃ ops₁
  after_reads_simp
  rw [show V₂ m d (Proc.devRef .tc main_v5) = _ from V₂_o m d]
  rfl

end Cert.Proof.GatherIdeal

end
-- ==== Proof.GatherValue.lean ====
/-
  The value of the SparseCore call's program: element `(b, s, k, c)` of its result is coordinate `c` of the point that
  neighbour number `k` of centre `(b, s)` names, minus that coordinate of the centre — which is what the reference reads.
-/
module

public import proofs.«01_k».proof.Proof.GatherIdealRead
public import proofs.«01_k».proof.Proof.Gen.GatherRefIdeal
public import proofs.«01_k».proof.Proof.Gen.GatherRefIdeal.Run
public import proofs.«01_k».proof.Proof.Gen.Pre_rows_in_points
public import Idealize.ShloMosaic.Lib.KernelVsHost
public import Idealize.ShloMosaic.Lib.Pipeline.Value

@[expose] public section

set_option maxRecDepth 16384

noncomputable section

namespace Cert.Proof.GatherValue

open Idealize.ShloMosaic Idealize.SL.Sem

abbrev T3 : Shape := ⟨3, ![8, 512, 32]⟩
abbrev T4 : Shape := ⟨4, ![8, 512, 32, 3]⟩
abbrev TC : Shape := ⟨3, ![8, 512, 3]⟩
abbrev TP : Shape := ⟨2, ![65536, 3]⟩

variable {F : FTy → Type} [FloatOps F]

/-- The neighbours relative to their centres, element by element. -/
def rel (pts : TP.Idx → Elt F .f32) (idx : T3.Idx → BitVec 32) (ctr : TC.Idx → Elt F .f32) : T4.Idx → Elt F .f32 := fun j =>
  FloatOps.subf (pts (ix2 (GatherIdeal.rowOf (idx (ix3 (j 0) (j 1) (j 2)))) (j 3))) (ctr (ix3 (j 0) (j 1) (j 3)))

section Kernel
open Cert.GatherIdeal Cert.GatherIdeal.Gen Cert.Proof.GatherIdeal

theorem list_at (A : T3.Idx → BitVec 32) (h : T3.ShapeCasts S131072) (a : Fin 8) (b : Fin 512) (c : Fin 32) :
    shapeCast S131072 A h (ix1 ⟨a.val * 16384 + b.val * 32 + c.val, by omega⟩) = A (ix3 a b c) := by
  refine shapeCast_apply A h _ _ ?_
  rw [Shape.rowMajor_val_one, Shape.rowMajor_val_three]
  show (a.val * 512 + b.val) * 32 + c.val = a.val * 16384 + b.val * 32 + c.val
  omega

theorem center_at {α : Type} (A : TC.Idx → α) (h : TC.ShapeCasts S4096x3) (a : Fin 8) (b : Fin 512) (e : Fin 3) :
    shapeCast S4096x3 A h (ix2 ⟨a.val * 512 + b.val, by omega⟩ e) = A (ix3 a b e) := by
  refine shapeCast_apply A h _ _ ?_
  rw [Shape.rowMajor_val_two, Shape.rowMajor_val_three]
  rfl

theorem point_padded {α : Type} (A : TP.Idx → α) {u : Shape} (v : u.Idx → α) (h : TP.Pads ![0, 0] ![0, 13] ![0, 0] S65536x16) (hu : 0 < u.numel)
    (r : Fin 65536) (e : Fin 3) : pad S65536x16 ![0, 0] ![0, 13] ![0, 0] A v h hu (ix2 r ⟨e.val, by omega⟩) = A (ix2 r e) :=
  pad_apply_of_inside _ _ _ A v h hu _ (ix2 r e) fun a => match a with | 0 => by simp | 1 => by simp

theorem center_padded {α : Type} (A : S4096x3.Idx → α) {u : Shape} (v : u.Idx → α) (h : S4096x3.Pads ![0, 0] ![0, 13] ![0, 0] S4096x16) (hu : 0 < u.numel)
    (r : Fin 4096) (e : Fin 3) : pad S4096x16 ![0, 0] ![0, 13] ![0, 0] A v h hu (ix2 r ⟨e.val, by omega⟩) = A (ix2 r e) :=
  pad_apply_of_inside _ _ _ A v h hu _ (ix2 r e) fun a => match a with | 0 => by simp | 1 => by simp

/-- The first three columns, as @main reads them of a call's result. -/
theorem columns_at {α : Type} (A : S131072x16.Idx → α) (a : Fin 8) (b : Fin 512) (c : Fin 32) (e : Fin 3) :
    extractStridedSlice S8x512x32x3 ![0, 0, 0, 0] (shapeCast S8x512x32x16 A shapeCasts_S131072x16_S8x512x32x16) slices_S8x512x32x16_S8x512x32x3_0_0_0_0 (ix4 a b c e)
      = A (ix2 ⟨a.val * 16384 + b.val * 32 + c.val, by omega⟩ ⟨e.val, by omega⟩) := by
  refine (extractStridedSlice_apply _ _ _ (ix4 a b c e : S8x512x32x3.Idx) (ix4 a b c ⟨e.val, by omega⟩ : S8x512x32x16.Idx)
    (fun a => match a with | 0 => (Nat.zero_add _).symm | 1 => (Nat.zero_add _).symm | 2 => (Nat.zero_add _).symm | 3 => (Nat.zero_add _).symm)).trans ?_
  refine shapeCast_apply _ _ _ _ ?_
  rw [Shape.rowMajor_val_two, Shape.rowMajor_val_four]
  show (a.val * 16384 + b.val * 32 + c.val) * 16 + e.val = ((a.val * 512 + b.val) * 32 + c.val) * 16 + e.val
  omega

theorem OUT_at (X : S65536x16.Idx → Elt F .f32) (G : S131072.Idx → BitVec 32) (C : S4096x16.Idx → Elt F .f32) (a : Fin 8) (b : Fin 512) (c : Fin 32) (e : Fin 16) :
    OUT X G C (ix2 ⟨a.val * 16384 + b.val * 32 + c.val, by omega⟩ e)
      = FloatOps.subf (X (ix2 (rowOf (G (ix1 ⟨a.val * 16384 + b.val * 32 + c.val, by omega⟩))) e)) (C (ix2 ⟨a.val * 512 + b.val, by omega⟩ e)) := by
  refine congrArg (FloatOps.subf _) (congrArg C ?_)
  refine congrArg (fun r => ix2 r e) (Fin.ext ?_)
  show (a.val * 16384 + b.val * 32 + c.val) / 32 = a.val * 512 + b.val
  omega

variable (m : (ℓ : Loc nD τ sig) → Buf (Elt F) ℓ)

theorem kernel_rel (d : Dev nD) :
    V₃ m d (Proc.devRef .tc main_v7)
      = rel (shapeCast S65536x3 (m ((SparseCore.T d).loc main_arg0)) shapeCasts_S8x8192x3_S65536x3) (m ((SparseCore.T d).loc main_arg1))
          (m ((SparseCore.T d).loc main_arg2)) := by
  refine (V₃_v7 m d).trans (funext fun j => ?_)
  refine (congrArg _ (eq_ix4 (show T4.Idx from j))).trans ?_
  refine (columns_at _ (j 0) (j 1) (j 2) (j 3)).trans ((OUT_at _ _ _ (j 0) (j 1) (j 2) ⟨(j 3).val, _⟩).trans ?_)
  refine congrArg₂ FloatOps.subf ?_ ?_
  · rw [G_eq, X_eq]
    exact (point_padded _ _ _ _ _ (j 3)).trans (congrArg (fun w => shapeCast S65536x3 (m ((SparseCore.T d).loc main_arg0)) shapeCasts_S8x8192x3_S65536x3 (ix2 (rowOf w) (j 3))) (list_at _ _ (j 0) (j 1) (j 2)))
  · rw [C_eq]
    exact (center_padded _ _ _ _ _ (j 3)).trans (center_at _ _ (j 0) (j 1) (j 3))

end Kernel

section Reference
open Cert.GatherRefIdeal Cert.GatherRefIdeal.Gen

theorem gather_rows (x : TP.Idx → Elt F .f32) (idx : (⟨4, ![8, 512, 32, 1]⟩ : Shape).Idx → BitVec 32) (j : T4.Idx) :
    Host.gather gather_S65536x3_S8x512x32x1_S8x512x32x3_3_0_n_n_0_3_13 x idx j
      = x (ix2 ⟨min (idx (ix4 (j 0) (j 1) (j 2) 0)).toInt.toNat 65535, by omega⟩ (j 3)) := by
  unfold Host.gather
  congr 1
  funext a
  refine Fin.ext ?_
  show GatherDims.start _ j idx a + GatherDims.batchCoord _ j a + GatherDims.offCoord _ j a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S65536x3_S8x512x32x1_S8x512x32x3_3_0_n_n_0_3_13.startIndexMap from List.mem_singleton.mpr rfl)]
    have hsi : gather_S65536x3_S8x512x32x1_S8x512x32x3_3_0_n_n_0_3_13.siIdx j
        ⟨List.idxOf (0 : Fin 2) gather_S65536x3_S8x512x32x1_S8x512x32x3_3_0_n_n_0_3_13.startIndexMap,
          List.idxOf_lt_length_iff.2 (List.mem_singleton.mpr rfl)⟩ = ix4 (j 0) (j 1) (j 2) 0 := by
      funext b; refine Fin.ext ?_
      match b with
      | 0 => rfl
      | 1 => rfl
      | 2 => rfl
      | 3 => rfl
    rw [hsi]
    rfl
  | 1 =>
    have hs : gather_S65536x3_S8x512x32x1_S8x512x32x3_3_0_n_n_0_3_13.start j idx 1 = 0 := by
      unfold GatherDims.start
      exact dif_neg (show ¬ (1 : Fin 2) ∈ [(0 : Fin 2)] by decide)
    rw [hs]
    simp only [Nat.zero_add, Nat.add_zero]
    rfl

/-- A row number in range, wrapped and clamped as the reference's indexing does it, is itself. -/
theorem word_in_range (w : BitVec 32) (h : w.toNat < 65536) :
    (Scalar.select (IntOp.cmpi .slt w 0#32) (IntOp.addi w 65536#32) w) = w ∧ min w.toInt.toNat 65535 = w.toNat := by
  have hw : w.toInt = w.toNat := by rw [BitVec.toInt_eq_toNat_cond]; omega
  refine ⟨?_, by rw [hw, Int.toNat_natCast]; omega⟩
  have hc : IntOp.cmpi .slt w 0#32 = 0#1 := by
    have : ¬ w.toInt < (0#32 : BitVec 32).toInt := by rw [hw]; simp
    show BitVec.ofBool (BitVec.slt w 0#32) = 0#1
    rw [BitVec.slt_eq_decide, decide_eq_false this]; rfl
  rw [hc]; rfl

theorem ref_rel (x : S8x8192x3.Idx → Elt F .f32) (idx : T3.Idx → BitVec 32) (ctr : TC.Idx → Elt F .f32) (h : ∀ i, (idx i).toNat < 65536) :
    subf (Host.gather gather_S65536x3_S8x512x32x1_S8x512x32x3_3_0_n_n_0_3_13 (shapeCast _ x shapeCasts_S8x8192x3_S65536x3)
        (broadcastInDim S8x512x32x1 ![0, 1, 2] bcast_S8x512x32_S8x512x32x1_0_1_2
          (select (cmpi .slt idx (broadcastInDim S8x512x32 ![] bcast_S_S8x512x32 (constantI S_ 32 0#32)))
            (addi idx (broadcastInDim S8x512x32 ![] bcast_S_S8x512x32 (constantI S_ 32 65536#32))) idx)))
      (broadcastInDim S8x512x32x3 ![0, 1, 2, 3] bcast_S8x512x1x3_S8x512x32x3_0_1_2_3 (broadcastInDim S8x512x1x3 ![0, 1, 3] bcast_S8x512x3_S8x512x1x3_0_1_3 ctr))
      = (rel (shapeCast S65536x3 x shapeCasts_S8x8192x3_S65536x3) idx ctr : T4.Idx → Elt F .f32) := by
  funext j
  refine congrArg₂ FloatOps.subf ((gather_rows _ _ j).trans ?_) ?_
  · have hb (A : T3.Idx → BitVec 32) : broadcastInDim S8x512x32x1 ![0, 1, 2] bcast_S8x512x32_S8x512x32x1_0_1_2 A (ix4 (j 0) (j 1) (j 2) 0) = A (ix3 (j 0) (j 1) (j 2)) :=
      broadcastInDim_apply _ _ _ _ _ fun a => match a with | 0 => rfl | 1 => rfl | 2 => rfl
    refine congrArg (fun r => shapeCast S65536x3 x shapeCasts_S8x8192x3_S65536x3 (ix2 r (j 3))) (Fin.ext ?_)
    have hw := h (ix3 (j 0) (j 1) (j 2))
    have hk := word_in_range _ hw
    show min (BitVec.toInt _).toNat 65535 = (idx (ix3 (j 0) (j 1) (j 2))).toNat % 65536
    rw [hb, Nat.mod_eq_of_lt hw]
    refine Eq.trans ?_ hk.2
    exact congrArg (fun w : BitVec 32 => min w.toInt.toNat 65535) hk.1
  · refine (broadcastInDim_apply _ _ _ j (ix4 (j 0) (j 1) 0 (j 3)) fun a => match a with | 0 => rfl | 1 => rfl | 2 => rfl | 3 => rfl).trans ?_
    exact broadcastInDim_apply _ _ _ _ (ix3 (j 0) (j 1) (j 3)) fun a => match a with | 0 => rfl | 1 => rfl | 2 => rfl

end Reference

/-! ## The precondition -/

theorem rows_of_pre (x : Cert.Pre_rows_in_points.S8x8192x3.Idx → Elt F .f32) (idx : T3.Idx → BitVec 32) (ctr : TC.Idx → Elt F .f32)
    (h : Cert.Pre_rows_in_points.fn (F := F) x idx ctr = fun _ => 1#1) : ∀ i, (idx i).toNat < 65536 := by
  have both (p q : Bool) : IntOp.andi (BitVec.ofBool p) (BitVec.ofBool q) = 1#1 → p = true ∧ q = true := by
    cases p <;> cases q <;> decide
  intro i
  have e : IntOp.andi (IntOp.cmpi .sge (idx i) 0#32) (IntOp.cmpi .slt (idx i) 65536#32) = 1#1 := congrFun h i
  have e2 := both _ _ e
  simp only [BitVec.sle_eq_decide, BitVec.slt_eq_decide, decide_eq_true_eq, BitVec.toInt_eq_toNat_cond, BitVec.toNat_ofNat, Nat.reducePow, Nat.reduceMod] at e2
  omega

end Cert.Proof.GatherValue

end
-- ==== Proof.GatherClaims.lean ====
/-
  The claims about the SparseCore call's program: its frame on the machine's words and at the extended reals, and its
  value at the extended reals.
-/
module

public import proofs.«01_k».proof.Proof.GatherRead
public import proofs.«01_k».proof.Proof.GatherValue
public import proofs.«01_k».proof.Proof.Gen.GatherRefIdeal.Run
public import Idealize.ShloMosaic.Lib.Claim

@[expose] public section

noncomputable section

namespace Cert.Proof.GatherClaims

open Idealize.ShloMosaic Idealize.SL.Sem

/-- The call reads the second argument's words in another order. -/
theorem words_ok (A : GatherValue.T3.Idx → BitVec 32) (h : GatherValue.T3.ShapeCasts ⟨1, ![131072]⟩) (hA : ∀ i, (A i).toNat < 65536) (j : (⟨1, ![131072]⟩ : Shape).Idx) :
    (shapeCast ⟨1, ![131072]⟩ A h j).toNat < 65536 := hA _

theorem preOK (m : (ℓ : Loc Cert.Gather.nD Cert.Gather.τ Cert.Gather.sig) → Buf (Elt Bits) ℓ) (h : Cert.Pre_Gather m) : Gather.PreOK (F := Bits) m := fun d j => by
  rw [Gather.G_eq]
  exact words_ok _ _ (GatherValue.rows_of_pre _ _ _ (h d)) j

theorem preOK_ideal (m : (ℓ : Loc Cert.GatherIdeal.nD Cert.GatherIdeal.τ Cert.GatherIdeal.sig) → Buf (Elt Ideal) ℓ) (h : Cert.Pre_GatherIdeal m) :
    GatherIdeal.PreOK (F := Ideal) m := fun d j => by
  rw [GatherIdeal.G_eq]
  exact words_ok _ _ (GatherValue.rows_of_pre _ _ _ (h d)) j

section
open Cert.Gather Cert.Gather.Gen
theorem mem0 : Proc.devRef .tc main_arg0 ∈ Gather.U := Finset.mem_filter.mpr ⟨StableHlo.devRef_mem_tcRefs _, by decide⟩
theorem mem1 : Proc.devRef .tc main_arg1 ∈ Gather.U := Finset.mem_filter.mpr ⟨StableHlo.devRef_mem_tcRefs _, by decide⟩
theorem mem2 : Proc.devRef .tc main_arg2 ∈ Gather.U := Finset.mem_filter.mpr ⟨StableHlo.devRef_mem_tcRefs _, by decide⟩

theorem frame : Cert.quiescent_Gather := fun m ρ hpre =>
  (θ_run Cert.Gather.defs _ _).mono (fun _ h => ⟨fun c => ⟨(h.1 c _ mem0).trans (Gather.V₃_arg0 m c), (h.1 c _ mem1).trans (Gather.V₃_arg1 m c),
    (h.1 c _ mem2).trans (Gather.V₃_arg2 m c)⟩, h.2⟩) (Gather.run_main (F := Bits) m ρ (preOK m hpre))
end

section
open Cert.GatherIdeal Cert.GatherIdeal.Gen
theorem imem0 : Proc.devRef .tc main_arg0 ∈ GatherIdeal.U := Finset.mem_filter.mpr ⟨StableHlo.devRef_mem_tcRefs _, by decide⟩
theorem imem1 : Proc.devRef .tc main_arg1 ∈ GatherIdeal.U := Finset.mem_filter.mpr ⟨StableHlo.devRef_mem_tcRefs _, by decide⟩
theorem imem2 : Proc.devRef .tc main_arg2 ∈ GatherIdeal.U := Finset.mem_filter.mpr ⟨StableHlo.devRef_mem_tcRefs _, by decide⟩
theorem imem7 : Proc.devRef .tc main_v7 ∈ GatherIdeal.U := Finset.mem_filter.mpr ⟨StableHlo.devRef_mem_tcRefs _, by decide⟩

theorem frame_ideal : Cert.quiescent_GatherIdeal := fun m ρ hpre =>
  (θ_run Cert.GatherIdeal.defs _ _).mono (fun _ h => ⟨fun c => ⟨(h.1 c _ imem0).trans (GatherIdeal.V₃_arg0 m c), (h.1 c _ imem1).trans (GatherIdeal.V₃_arg1 m c),
    (h.1 c _ imem2).trans (GatherIdeal.V₃_arg2 m c)⟩, h.2⟩) (GatherIdeal.run_main (F := Ideal) m ρ (preOK_ideal m hpre))
end

theorem frame_ref : Cert.quiescent_GatherRefIdeal := fun m g _ =>
  (θ_run Cert.GatherRefIdeal.defs _ _).mono (fun r h => ⟨fun c => (h c).2, sem_eq_zero_of_no_sems (by decide) r.2⟩)
    (Cert.GatherRefIdeal.Value.run (F := Ideal) m g)

theorem frame_ref_pre : Cert.quiescent_GatherRefIdeal_pre_rows_in_points := fun m g _ => frame_ref m g trivial

theorem algebraic : Cert.algebraic_GatherIdeal_GatherRefIdeal := by
  intro m g m' g' hpre hagree
  refine ⟨fun c => GatherIdeal.V₃ m c (Proc.devRef .tc Cert.GatherIdeal.main_v7), ?_, ?_⟩
  · exact (θ_run Cert.GatherIdeal.defs _ _).mono (fun _ h c => ⟨h.1 c _ imem7, (h.1 c _ imem0).trans (GatherIdeal.V₃_arg0 m c), (h.1 c _ imem1).trans (GatherIdeal.V₃_arg1 m c),
      (h.1 c _ imem2).trans (GatherIdeal.V₃_arg2 m c)⟩) (GatherIdeal.run_main (F := Ideal) m g (preOK_ideal m hpre))
  · refine (θ_run Cert.GatherRefIdeal.defs _ _).mono (fun _ h c => ⟨(h c).1.trans ?_, (h c).2⟩) (Cert.GatherRefIdeal.Value.run (F := Ideal) m' g')
    obtain ⟨h0, h1, h2⟩ := hagree c
    rw [h0, h1, h2]
    exact (GatherValue.ref_rel _ _ _ (GatherValue.rows_of_pre _ _ _ (hpre c))).trans (GatherValue.kernel_rel m c).symm

end Cert.Proof.GatherClaims

end
-- ==== Proof.FpsIdealBody.lean ====
/-
  The farthest-point kernel's body, run once at symbolic whole memrefs, its VALUE carried: trip `k` of its loop reads the
  coordinates of the point `far k` by a one-hot sum, puts them in column `k` of the result, lowers every point's
  distance to the points chosen so far, and takes the first point of the greatest distance as `far (k + 1)`.
-/
module

public import proofs.«01_k».proof.Defs
public import Idealize.ShloMosaic.Lib.Pipeline.Kit
public import Idealize.ShloMosaic.Lib.Pointwise
public import Idealize.ShloMosaic.Lib.Pointwise.Reshape
public import Idealize.ShloMosaic.Lib.Writes
public import Idealize.ShloMosaic.Lib.WritesUnit
public import Idealize.ShloMosaic.Lib.VecWindow
public import Idealize.ShloMosaic.Lib.ValueLayout
public import Idealize.ShloMosaic.Lib.ValueLayoutCasts
public import Idealize.ShloMosaic.Lib.WordArith
public import Idealize.ShloMosaic.Lib.Tactic
public import proofs.«01_k».proof.Proof.Gen.FpsIdeal
public import proofs.«01_k».proof.Proof.Gen.FpsIdeal.Skeleton

@[expose] public section

set_option maxRecDepth 16384

noncomputable section

namespace Cert.Proof.FpsIdeal

open Cert.FpsIdeal Cert.FpsIdeal.Gen

open Idealize.ShloMosaic hiding ix2 ix3 eq_ix2 eq_ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig Unit (Elt F) ℕ (UR sig nD τ) ℕ

/-! ## What the trips compute -/

/-- Every lane's number, of the points and of the result's columns. -/
abbrev lanes : IVec S8x8192 32 := iota .tc S8x8192 32 [1] iota_S8x8192_d1_w32
abbrev cols : IVec S8x512 32 := iota .tc S8x512 32 [1] iota_S8x512_d1_w32

section
variable (v0 v2 v4 : Vec F S1x8x8192 .f32)

/-- The point a trip starts at and the distances it starts from, from the three rows of coordinates. -/
def at_ : ℕ → IVec S8x1 32 × FVec F S8x8192 .f32
  | 0 => (k0_pay5, k0_pay4)
  | k + 1 =>
    let s := at_ k
    let a := k0_pay11 (k0_pay1 v0) lanes s.1
    let b := k0_pay12 (k0_pay2 v2) lanes s.1
    let c := k0_pay13 (k0_pay3 v4) lanes s.1
    (k0_pay9 v0 v2 v4 a b c s.2, k0_pay8 v0 v2 v4 a b c s.2)

/-- Coordinate `r` of the point trip `k` starts at. -/
def coord (k : ℕ) : Fin 3 → FVec F S8x1 .f32
  | 0 => k0_pay11 (k0_pay1 v0) lanes (at_ v0 v2 v4 k).1
  | 1 => k0_pay12 (k0_pay2 v2) lanes (at_ v0 v2 v4 k).1
  | 2 => k0_pay13 (k0_pay3 v4) lanes (at_ v0 v2 v4 k).1

theorem at_succ (k : ℕ) : at_ v0 v2 v4 (k + 1)
    = (k0_pay9 v0 v2 v4 (coord v0 v2 v4 k 0) (coord v0 v2 v4 k 1) (coord v0 v2 v4 k 2) (at_ v0 v2 v4 k).2,
      k0_pay8 v0 v2 v4 (coord v0 v2 v4 k 0) (coord v0 v2 v4 k 1) (coord v0 v2 v4 k 2) (at_ v0 v2 v4 k).2) := rfl

/-- The result: column `j` holds the point trip `j` starts at. -/
def picked : Vec F S3x8x512 .f32 := fun i => coord v0 v2 v4 (i 2).val (i 0) (ix2 (i 1) 0)

end

/-! ## One column put -/

theorem col_word (k : Fin k0_t1_loop.trips) (b : Fin 8) (j : Fin 512) :
    k0_pay14 cols 0#32 1#32 k (ix2 b j) = if j.val = k.val then 1#1 else 0#1 := by
  have hk : k.val < 512 := Nat.lt_of_lt_of_le k.isLt k0_t1_abs.2.1
  have hj : j.val < 512 := j.isLt
  have e : k0_pay14 cols 0#32 1#32 k (ix2 b j) = IntOp.cmpi .eq (BitVec.ofNat 32 (0 * 512 + j.val)) (0#32 + BitVec.ofNat 32 k.val * 1#32) := rfl
  have ek : (0#32 + BitVec.ofNat 32 k.val * 1#32) = BitVec.ofNat 32 k.val := by rw [BitVec.mul_one, BitVec.zero_add]
  rw [e, ek, Nat.zero_mul, Nat.zero_add]
  show BitVec.ofBool (BitVec.ofNat 32 j.val == BitVec.ofNat 32 k.val) = _
  by_cases h : j.val = k.val
  · rw [if_pos h, h, beq_self_eq_true]; rfl
  · rw [if_neg h, beq_eq_false_iff_ne.2 fun h' => h (by
      have := congrArg BitVec.toNat h'
      rwa [BitVec.toNat_ofNat, BitVec.toNat_ofNat, Nat.mod_eq_of_lt (by omega), Nat.mod_eq_of_lt (by omega)] at this)]; rfl

theorem col_put (a : FVec F S8x1 .f32) (v : Vec F S1x8x512 .f32) (k : Fin k0_t1_loop.trips) (u : Fin 1) (b : Fin 8) (j : Fin 512) :
    (shapeCast S1x8x512 (select (k0_pay14 cols 0#32 1#32 k) (broadcastTo S8x512 (shapeCast S8x1 a shapeCasts_S8x1_S8x1) broadcasts_S8x1_S8x512)
      (shapeCast S8x512 v shapeCasts_S1x8x512_S8x512)) shapeCasts_S8x512_S1x8x512 : FVec F S1x8x512 .f32) (ix3 u b j)
      = if j.val = k.val then a (ix2 b 0) else v (ix3 0 b j) := by
  refine (shapeCast_ab_1ab_apply _ _ u b j).trans ?_
  rw [select_apply, col_word, shapeCast_1ab_ab_apply, shapeCast_self]
  rw [broadcastTo_apply a broadcasts_S8x1_S8x512 (ix2 b j) (ix2 b 0) fun x => match x with | 0 => rfl | 1 => rfl]
  by_cases h : j.val = k.val
  · rw [if_pos h, if_pos h]; rfl
  · rw [if_neg h, if_neg h]; rfl

/-- Three stores, one per row: what a row then reads. -/
theorem rows_read (v : View sig .tc .vmem S3x8x512 .f32) (f : v.ty.Contents (Elt F)) (w0 w1 w2 : Vec F S1x8x512 .f32) (b : Fin 8) (j : Fin 512) (r : Fin 3) :
    v.read (Elt F) (v.writes (Elt F) f [⟨Rect.unit ![2, 0, 0] S1x8x512.size inb_S3x8x512_S1x8x512_2_0_0, w2⟩,
        ⟨Rect.unit ![1, 0, 0] S1x8x512.size inb_S3x8x512_S1x8x512_1_0_0, w1⟩, ⟨Rect.unit ![0, 0, 0] S1x8x512.size inb_S3x8x512_S1x8x512_0_0_0, w0⟩]) (ix3 r b j)
      = (match r with | 0 => w0 | 1 => w1 | 2 => w2 : Vec F S1x8x512 .f32) (ix3 0 b j) := by
  match r with
  | 2 => exact View.read_writes_cons_unit_of_mem v f _ w2 _ _ (ix3 0 b j) rfl fun a => match a with | 0 => rfl | 1 => (Nat.zero_add _).symm | 2 => (Nat.zero_add _).symm
  | 1 =>
    refine (View.read_writes_cons_unit_of_not_mem v f inb_S3x8x512_S1x8x512_2_0_0 w2 _ (ix3 1 b j) (rfl : _ = ![2, 0, 0]) 0 (.inl (by show 1 < 2; omega))).trans ?_
    exact View.read_writes_cons_unit_of_mem v f _ w1 _ _ (ix3 0 b j) rfl fun a => match a with | 0 => rfl | 1 => (Nat.zero_add _).symm | 2 => (Nat.zero_add _).symm
  | 0 =>
    refine (View.read_writes_cons_unit_of_not_mem v f inb_S3x8x512_S1x8x512_2_0_0 w2 _ (ix3 0 b j) (rfl : _ = ![2, 0, 0]) 0 (.inl (by show 0 < 2; omega))).trans ?_
    refine (View.read_writes_cons_unit_of_not_mem v f inb_S3x8x512_S1x8x512_1_0_0 w1 _ (ix3 0 b j) (rfl : _ = ![1, 0, 0]) 0 (.inl (by show 0 < 1; omega))).trans ?_
    exact View.read_writes_cons_unit_of_mem v f _ w0 _ _ (ix3 0 b j) rfl fun a => match a with | 0 => rfl | 1 => (Nat.zero_add _).symm | 2 => (Nat.zero_add _).symm

/-- A load of one row. -/
theorem row_read (v : View sig .tc .vmem S3x8x512 .f32) (f : v.ty.Contents (Elt F)) (n : ℕ) (inb : ∀ a, (![n, 0, 0] : Fin 3 → ℕ) a + S1x8x512.size a ≤ S3x8x512.size a)
    (r : Fin 3) (hr : n = r.val) (b : Fin 8) (j : Fin 512) :
    (v.readAt (Elt F) (Rect.unit (s := S3x8x512) ![n, 0, 0] S1x8x512.size inb).toLoadRect f : Vec F S1x8x512 .f32) (ix3 0 b j) = v.read (Elt F) f (ix3 r b j) := by
  subst hr
  refine congrArg (v.read (Elt F) f) (Rect.emb_eq_of_coords (Rect.unit (s := S3x8x512) ![r.val, 0, 0] S1x8x512.size inb) (ix3 0 b j) _ fun a => ?_)
  match a with
  | 0 => rfl
  | 1 => show b.val = 0 + 1 * b.val; omega
  | 2 => show j.val = 0 + 1 * j.val; omega

section
variable (c : Dev nD) (arg0 : Memref sig .tc .vmem S3x8x8192 .f32) (harg0 : arg0.IsWhole) (arg1 : Memref sig .tc .vmem S3x8x512 .f32) (harg1 : arg1.IsWhole)
  (arg2 : Memref sig .tc .vmem S8x8192 .f32) (harg2 : arg2.IsWhole) (v0 v2 v4 : Vec F S1x8x8192 .f32)

/-- Before trip `k`: the carried point and the distances are the trip's, and the columns below `k` are the result's. -/
def inv (k : ℕ) (far : IVec S8x1 32) : sProp 𝕄 :=
  iprop(⌜far = (at_ v0 v2 v4 k).1⌝ ∗ owns (c : Thread nD τ) arg2 fullShare (at_ v0 v2 v4 k).2
    ∗ (∃ d : Vec F S3x8x512 .f32, ⌜∀ i : S3x8x512.Idx, (i 2).val < k → d i = picked v0 v2 v4 i⌝ ∗ owns (c : Thread nD τ) arg1 fullShare d))

set_option maxHeartbeats 1000000 in
theorem trip (k : Fin k0_t1_loop.trips) (far : IVec S8x1 32) :
    inv c arg1 arg2 v0 v2 v4 k.val far ⊢ wp frame (wpE (defs₀ (F := F)) Variants.none c none) Set.univ
      (k0_t1_body arg0 harg0 arg1 harg1 arg2 harg2 v0 v2 v4 lanes cols k far) (inv c arg1 arg2 v0 v2 v4 (k.val + 1)) := by
  unfold inv k0_t1_body
  simp only [k0_part1_eq_skeleton]; unfold k0_part1_skel
  unfold owns
  iintro ⟨%hfar, ⟨%f2, %hf2, H2⟩, ⟨%d, %hd, ⟨%f1, %hf1, H1⟩⟩⟩
  obtain rfl := harg2.eq_unread hf2; obtain rfl := harg1.eq_unread hf1
  sl_exec
  sl_step
  dsimp only
  subst hfar
  have e66 : trip.sl.v66 c arg2 harg2 v0 v2 v4 k = (at_ v0 v2 v4 k.val).2 := by
    unfold trip.sl.v66; rw [View.readAt_full]; exact hf2
  rw [e66]
  isplitr
  · ipureintro; rw [at_succ]; dsimp only [coord]
  isplitl [H2]
  · iexists _; isplitr
    swap; · iexact H2
    ipureintro; rw [at_succ]; dsimp only [coord]; exact View.read_writes_full _ _ _ _ _
  iexists _; isplitr
  swap
  · iexists _; isplitr
    swap; · iexact H1
    ipureintro; rfl
  ipureintro
  intro i hi
  obtain ⟨r, b, j, rfl⟩ : ∃ r b j, i = ix3 r b j := ⟨i 0, i 1, i 2, eq_ix3 i⟩
  unfold trip.sl.v47 trip.sl.v39
  have hfar := (at_ v0 v2 v4 k.val).1
  refine (rows_read arg1.view (harg1.unread d)
    (k0_pay15 (k0_pay1 v0) lanes cols 0#32 1#32 k (at_ v0 v2 v4 k.val).1
      (View.readAt (Elt F) arg1.view (Rect.unit (s := S3x8x512) ![0, 0, 0] S1x8x512.size inb_S3x8x512_S1x8x512_0_0_0).toLoadRect (harg1.unread d)))
    (k0_pay16 (k0_pay2 v2) lanes cols 0#32 1#32 k (at_ v0 v2 v4 k.val).1
      (View.readAt (Elt F) arg1.view (Rect.unit (s := S3x8x512) ![1, 0, 0] S1x8x512.size inb_S3x8x512_S1x8x512_1_0_0).toLoadRect (harg1.unread d)))
    (k0_pay6 (k0_pay14 cols 0#32 1#32 k)
      (k0_pay17 (View.readAt (Elt F) arg1.view (Rect.unit (s := S3x8x512) ![2, 0, 0] S1x8x512.size inb_S3x8x512_S1x8x512_2_0_0).toLoadRect (harg1.unread d)))
      (k0_pay18 (k0_pay3 v4) lanes (at_ v0 v2 v4 k.val).1)) b j r).trans ?_
  have key (a : FVec F S8x1 .f32) (w : Vec F S1x8x512 .f32) (ha : a = coord v0 v2 v4 k.val r) (hw : w (ix3 0 b j) = d (ix3 r b j)) :
      (if j.val = k.val then a (ix2 b 0) else w (ix3 0 b j)) = picked v0 v2 v4 (ix3 r b j) := by
    by_cases h : j.val = k.val
    · rw [if_pos h, ha, ← h]; rfl
    · have hi' : j.val < k.val + 1 := hi
      rw [if_neg h, hw]
      exact hd _ (show j.val < k.val by omega)
  have hrow (n : ℕ) (inb) (hr : n = r.val) := (row_read arg1.view (harg1.unread d) n inb r hr b j).trans (congrFun hf1 _)
  match r with
  | 0 => exact (col_put _ _ k 0 b j).trans (key _ _ rfl (hrow 0 _ rfl))
  | 1 => exact (col_put _ _ k 0 b j).trans (key _ _ rfl (hrow 1 _ rfl))
  | 2 => exact (col_put _ _ k 0 b j).trans (key _ _ rfl (hrow 2 _ rfl))

/-- Row `r` of the points' coordinates, as the kernel loads it. -/
def row0 (x : Vec F S3x8x8192 .f32) : Vec F S1x8x8192 .f32 := VecWindow.window (s := S3x8x8192) x ![0, 0, 0] S1x8x8192.size inb_S3x8x8192_S1x8x8192_0_0_0
def row1 (x : Vec F S3x8x8192 .f32) : Vec F S1x8x8192 .f32 := VecWindow.window (s := S3x8x8192) x ![1, 0, 0] S1x8x8192.size inb_S3x8x8192_S1x8x8192_1_0_0
def row2 (x : Vec F S3x8x8192 .f32) : Vec F S1x8x8192 .f32 := VecWindow.window (s := S3x8x8192) x ![2, 0, 0] S1x8x8192.size inb_S3x8x8192_S1x8x8192_2_0_0

/-- What the body leaves in the result, from the points' coordinates alone. -/
def OUT (x : Vec F S3x8x8192 .f32) : Vec F S3x8x512 .f32 := picked (row0 x) (row1 x) (row2 x)

theorem trips_eq : k0_t1_loop.trips = 512 := by decide

set_option maxHeartbeats 1000000 in
theorem body (x : Vec F S3x8x8192 .f32) (K : PUnit → sProp 𝕄) :
    iprop(owns (c : Thread nD τ) arg0 fullShare x ∗ (∃ d, owns (c : Thread nD τ) arg1 fullShare d) ∗ (∃ f, arg2.view.loc (c : Thread nD τ) ↦[arg2.view.set]{fullShare} f)
        ∗ (iprop(owns (c : Thread nD τ) arg0 fullShare x ∗ owns (c : Thread nD τ) arg1 fullShare (OUT x) ∗ (∃ f, arg2.view.loc (c : Thread nD τ) ↦[arg2.view.set]{fullShare} f)) -∗ K ⟨⟩))
      ⊢ wp frame (wpE (defs₀ (F := F)) Variants.none c none) Set.univ (cc0__fps_body arg0 harg0 arg1 harg1 arg2 harg2) K := by
  simp only [cc0__fps_body_eq_skeleton]; unfold cc0__fps_body_skel
  unfold owns
  iintro ⟨⟨%f0, %hf0, H0⟩, ⟨%d, %f1, %hf1, H1⟩, ⟨%f2, H2⟩, Hk⟩
  obtain rfl := harg0.eq_unread hf0
  sl_exec
  sl_for (inv c arg1 arg2
    (View.readAt (Elt F) arg0.view (Rect.unit (s := S3x8x8192) ![0, 0, 0] S1x8x8192.size inb_S3x8x8192_S1x8x8192_0_0_0).toLoadRect (harg0.unread x))
    (View.readAt (Elt F) arg0.view (Rect.unit (s := S3x8x8192) ![1, 0, 0] S1x8x8192.size inb_S3x8x8192_S1x8x8192_1_0_0).toLoadRect (harg0.unread x))
    (View.readAt (Elt F) arg0.view (Rect.unit (s := S3x8x8192) ![2, 0, 0] S1x8x8192.size inb_S3x8x8192_S1x8x8192_2_0_0).toLoadRect (harg0.unread x))) $$ [H1 H2]
  case region => intro k a; exact trip c arg0 harg0 arg1 harg1 arg2 harg2 _ _ _ k a
  · unfold inv owns
    isplitr
    · ipureintro; rfl
    isplitl [H2]
    · iexists _; isplitr
      swap; · iexact H2
      ipureintro; unfold body.sl.H2_1; exact View.read_writes_full _ _ _ _ _
    iexists d; isplitr
    · ipureintro; exact fun i hi => absurd hi (Nat.not_lt_zero _)
    iexists f1; isplitr
    · ipureintro; exact hf1
    iexact H1
  iintro %acc HI
  unfold inv owns
  icases HI with ⟨-, ⟨%g2, %hg2, H2⟩, ⟨%e, %he, ⟨%g1, %hg1, H1⟩⟩⟩
  sl_exec
  sl_step
  iapply Hk
  isplitl [H0]
  · iexists _; isplitr
    swap; · iexact H0
    ipureintro; exact hf0
  isplitl [H1]
  · iexists g1; isplitr
    swap; · iexact H1
    ipureintro
    have r0 := (View.readAt_unit arg0.view (harg0.unread x) inb_S3x8x8192_S1x8x8192_0_0_0 rfl inb_S3x8x8192_S1x8x8192_0_0_0).trans
      (congrArg (fun y : Vec F S3x8x8192 .f32 => row0 y) hf0)
    have r1 := (View.readAt_unit arg0.view (harg0.unread x) inb_S3x8x8192_S1x8x8192_1_0_0 rfl inb_S3x8x8192_S1x8x8192_1_0_0).trans
      (congrArg (fun y : Vec F S3x8x8192 .f32 => row1 y) hf0)
    have r2 := (View.readAt_unit arg0.view (harg0.unread x) inb_S3x8x8192_S1x8x8192_2_0_0 rfl inb_S3x8x8192_S1x8x8192_2_0_0).trans
      (congrArg (fun y : Vec F S3x8x8192 .f32 => row2 y) hf0)
    have ht : Scf.trips k0_t1_loop.lb k0_t1_loop.ub k0_t1_loop.st = 512 := trips_eq
    rw [hg1]
    funext i
    rw [he i (by rw [ht]; exact (i 2).isLt), r0, r1, r2]
    rfl
  iexists g2; iexact H2

end
end Cert.Proof.FpsIdeal
end
-- ==== Proof.FpsIdealLaunch.lean ====
/-
  The farthest-point call as the pipeline launches it: its proof data (the points' coordinates kept, the result at
  `OUT` of them, the scratch inside the invariant), the body obligation, and the run of @main — the host transpose
  before the call, the call, the host transpose after it — with what it leaves in the result named.
-/
module

public import proofs.«01_k».proof.Proof.FpsIdealBody
public import proofs.«01_k».proof.Proof.Gen.FpsIdeal.Launch
public import proofs.«01_k».proof.Proof.Gen.FpsIdeal.Points
public import Idealize.ShloMosaic.Lib.Pipeline.Frame
public import Idealize.ShloMosaic.Lib.Pipeline.FrameBody
public import Idealize.ShloMosaic.Lib.Pipeline.FrameSuffix
public import Idealize.ShloMosaic.Lib.Pipeline.ValueKit
public import Idealize.ShloMosaic.Lib.Claim
public import Idealize.ShloMosaic.Lib.StableHlo.Run
public import Idealize.ShloMosaic.Lib.StableHlo.RunRead

@[expose] public section

set_option maxRecDepth 16384

noncomputable section

namespace Cert.Proof.FpsIdeal

open Cert.FpsIdeal Cert.FpsIdeal.Gen

open Idealize.ShloMosaic hiding ix2 ix3 eq_ix2 eq_ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the call, and after it. -/
abbrev before : List (List (HloOp τ sig (Elt F))) := [hostOps0]
abbrev later : List (List (HloOp τ sig (Elt F))) := [hostOps1]

/-- The buffers as the call finds them. -/
abbrev V₀ (c : Dev nD) : Valuation τ sig (Elt F) := StableHlo.after (before (F := F)).flatten (fun b => m (c, b))

def pts (c : Dev nD) : Vec F S3x8x8192 .f32 := V₀ m c (Proc.devRef .tc main_v0)

theorem pts_eq (c : Dev nD) : pts m c = transpose S3x8x8192 [2, 0, 1] (m ((c : Thread nD τ).loc main_arg0) : Vec F S8x8192x3 .f32) transposes_S8x8192x3_S3x8x8192_2_0_1 := by
  delta pts V₀ before hostOps0
  after_reads_simp

abbrev hst0 (t : Fin cfg0.N) : (st0_0 t).IsWhole := hstage0_0 0
abbrev hst1 (t : Fin cfg0.N) : (st0_1 t).IsWhole := hstage0_1 0

def dats (_ : Fin 1) (c : Dev nD) : Dat τ (Elt F) Unit ℕ (UR sig nD τ) ℕ cfg0 c where
  A w := V₀ m c (Proc.devRef .tc (Pipeline.arrRef spec0 w))
  after w _ := match w with
    | ⟨0, _⟩ => pts m c
    | ⟨1, _⟩ => OUT (pts m c)
  Φ _ := Pipeline.ΦA spec0 c
  q _ := fullShare
  owed _ := 0

theorem A_eq (c : Dev nD) (w : Fin cfg0.W) : (dats m 0 c).A w = V₀ m c (Proc.devRef .tc (Pipeline.arrRef spec0 w)) := by
  dsimp only [dats]
theorem after_in (c : Dev nD) (t : Fin cfg0.N) : (dats m 0 c).after 0 t = pts m c := by dsimp only [dats]
theorem after_out (c : Dev nD) (t : Fin cfg0.N) : (dats m 0 c).after 1 t = OUT (pts m c) := by dsimp only [dats]

theorem blk_in (c : Dev nD) (t : Fin cfg0.N) : ((cfg0.win 0).blk t).view.read (Elt F) (V₀ m c (Proc.devRef .tc (Pipeline.arrRef spec0 0))) = pts m c := by
  funext j
  obtain rfl := fin_N0 t
  blk_simp
  refine congrArg (pts m c) (funext fun a => Fin.ext ?_)
  blk_simp
  rw [show win0_0.index t0_0 a = 0 from match a with | 0 => rfl | 1 => rfl | 2 => rfl, Nat.zero_mul, Nat.zero_add]

theorem before_in (c : Dev nD) (t : Fin cfg0.N) (d) : (dats m 0 c).before 0 t d = pts m c :=
  ((dats m 0 c).before_in_eq_fetched 0 rfl (fun _ => rfl) (fun _ _ _ => rfl) (fun t => by rw [after_in]; unfold Dat.blockOf; rw [A_eq]; exact (blk_in m c t).symm) t d).trans
    (by unfold Dat.fetched Dat.blockOf; rw [A_eq]; exact blk_in m c t)

theorem arr_out (c : Dev nD) : (dats m 0 c).arrAt 1 cfg0.N = OUT (pts m c) := by
  refine (dats m 0 c).arrAt_eq_of_after_last 1 t0_0 (by decide +kernel) _ fun j => ?_
  blk_simp
  rw [after_out]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem hscr : (Memref.whole cc0_scratch0 : Memref sig .tc .vmem S8x8192 .f32).view.set = Finset.univ := View.set_whole _

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after_in, after_out]
  unfold Pipeline.ΦA
  rw [scopedRest0_eq]
  iintro ⟨⟨⟨%fs, Hs⟩, Hr⟩, Ho, ⟨%d0, H0⟩, ⟨%d1, H1⟩⟩
  ihave Hs' := (Entails.of_eq (show ((c : Thread nD τ).loc cc0_scratch0 ↦{fullShare} fs : sProp 𝕄)
      = (Memref.whole cc0_scratch0).view.loc (c : Thread nD τ) ↦[(Memref.whole cc0_scratch0).view.set]{fullShare} fs by rw [hscr])) $$ Hs
  iapply (body c (st0_0 t) _ (st0_1 t) _ (Memref.whole cc0_scratch0) _ (pts m c) _)
  isplitl [H0]; · iexact H0
  isplitl [H1]; · iexists _; iexact H1
  isplitl [Hs']; · iexists fs; iexact Hs'
  iintro ⟨H0, H1, ⟨%f, Hs⟩⟩
  ihave Hs' := (Entails.of_eq (show ((c : Thread nD τ).loc cc0_scratch0 ↦{fullShare} f : sProp 𝕄)
      = (Memref.whole cc0_scratch0).view.loc (c : Thread nD τ) ↦[(Memref.whole cc0_scratch0).view.set]{fullShare} f by rw [hscr]).symm) $$ Hs
  isplitl [Hs' Hr]
  · isplitl [Hs']; · iexists f; iexact Hs'
    iexact Hr
  isplitl [Ho]; · iexact Ho
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem later_sub : ∀ ops ∈ later (F := F), ∀ op ∈ ops, op.bufs ⊆ Pipeline.tailRefs sig Pipeline.Prefetch.none spec0 := by
  intro ops ho op hop
  obtain rfl := List.mem_singleton.1 ho
  obtain rfl := List.mem_singleton.1 hop
  rw [Pipeline.tailRefs_none _ winFacts0.arr_unscoped]
  exact Pipeline.sub_ucRefs _ (StableHlo.unary_bufs_sub ..)

theorem later_fresh : ∀ ops ∈ later (F := F), ∀ op ∈ ops, op.fresh = ∅ := by
  intro ops ho op hop
  obtain rfl := List.mem_singleton.1 ho
  obtain rfl := List.mem_singleton.1 hop
  rfl

theorem later_keep : ∀ ops ∈ later (F := F), ∀ op ∈ ops, ∀ w, Proc.devRef .tc (Pipeline.arrRef spec0 w) ∉ op.writes := by
  intro ops ho op hop w
  obtain rfl := List.mem_singleton.1 ho
  obtain rfl := List.mem_singleton.1 hop
  rw [StableHlo.unary_writes, Finset.mem_singleton]
  exact match w with | 0 => StableHlo.devRef_ne_of_ne (by decide) | 1 => StableHlo.devRef_ne_of_ne (by decide)

theorem end_v2 (c : Dev nD) : Pipeline.afterTail₀ cfgs (dats m) 0 (V₀ m) later c main_v2
    = (transpose S8x512x3 [1, 2, 0] (OUT (pts m c)) transposes_S3x8x512_S8x512x3_1_2_0 : Vec F S8x512x3 .f32) := by
  unfold Pipeline.afterTail₀
  delta later hostOps1
  after_reads_simp
  refine congrArg (fun y : Vec F S3x8x512 .f32 => transpose S8x512x3 [1, 2, 0] y transposes_S3x8x512_S8x512x3_1_2_0) ?_
  exact (Pipeline.withArrays_arr spec0 winFacts0.arr_inj c (V₀ m c) (fun w => (dats m 0 c).arrAt w cfg0.N) 1).trans (arr_out m c)

theorem end_arg0 (c : Dev nD) : Pipeline.afterTail₀ cfgs (dats m) 0 (V₀ m) later c main_arg0 = m ((c : Thread nD τ).loc main_arg0) := by
  unfold Pipeline.afterTail₀
  delta later hostOps1
  after_reads_simp
  refine (Pipeline.withArrays_of_ne spec0 c (V₀ m c) (fun w => (dats m 0 c).arrAt w cfg0.N) main_arg0 (by decide)).trans ?_
  delta V₀ before hostOps0
  after_reads_simp

set_option backward.isDefEq.respectTransparency.types false in
/-- At any values, from any memory with zero counters: @main runs to the end, leaves `OUT` of the points in its result and
    the points as they were, and every counter at zero. -/
theorem run : θ_run defs (onTc (τ := τ) (main (F := F))) (s₀ m ρ) (fun r => (∀ c : Dev nD,
      r.2.mem ((c : Thread nD τ).loc main_v2) = (transpose S8x512x3 [1, 2, 0] (OUT (pts m c)) transposes_S3x8x512_S8x512x3_1_2_0 : Vec F S8x512x3 .f32)
      ∧ r.2.mem ((c : Thread nD τ).loc main_arg0) = m ((c : Thread nD τ).loc main_arg0)) ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V₀ m) (opss := later)
    (hsub := later_sub) (hfresh := later_fresh) (hkeep := later_keep)
    (hmain := Pipeline.hmain_around cfgs 0 defs₀ Variants.none m main before later hostOps0_sub (by simp only [List.Forall]; rfl) main_chain)
    (hA := A_eq m) (hin := fun _ => .rfl) (hout := fun _ => .rfl)
    (hQ' := fun r h => ⟨fun c => ⟨((h.1 c).2 main_v2 (Pipeline.mem_restRefs_of main_v2 (by decide) (by decide))).trans (end_v2 m c),
      ((h.1 c).2 main_arg0 (Pipeline.mem_restRefs_of main_arg0 (by decide) (by decide))).trans (end_arg0 m c)⟩, h.2⟩)

end Cert.Proof.FpsIdeal
end
-- ==== Proof.Rank.lean ====
/-
  Picking in order of a key. A selection that takes, one after another, the lowest position of the greatest key among the
  positions not taken yet IS the front of a stable sort by the key, greatest first (`sortedFrom_eq_pick`), so it is the
  positions the host's `topK` returns. On the kernels' side the lowest position of a key is the fold of the signed minimum
  over the lanes' numbers, a large number standing for the lanes of other keys (`fold_minsi_lane`).
-/
module

public import Idealize.ShloMosaic.Lib.Pipeline.Kit
public import Idealize.ShloMosaic.Lib.Pointwise
public import Idealize.ShloMosaic.Lib.SortPrefix
public import Idealize.ShloMosaic.Lib.PlanTiles.StableSort
public import Idealize.ShloMosaic.Lib.WordArith
public import Idealize.ShloMosaic.Lib.ValueLayout

@[expose] public section

noncomputable section

namespace Cert.Proof.Rank

open Idealize.ShloMosaic

/-! ## The order of a stable sort -/

section Order
variable {n : ℕ} (d : Fin n → EReal)

/-- How many positions have a lesser key. -/
def below (k : Fin n) : ℕ := (Finset.univ.filter fun q => d q < d k).card

theorem below_lt_iff (x y : Fin n) : below d y < below d x ↔ d y < d x := by
  constructor
  · intro h
    by_contra hn
    refine absurd h (not_lt.mpr (Finset.card_le_card fun q hq => ?_))
    simp only [Finset.mem_filter, Finset.mem_univ, true_and] at hq ⊢
    exact lt_of_lt_of_le hq (not_lt.mp hn)
  · intro h
    refine Finset.card_lt_card ⟨fun q hq => ?_, fun hs => ?_⟩
    · simp only [Finset.mem_filter, Finset.mem_univ, true_and] at hq ⊢
      exact hq.trans h
    · have := hs (by simpa using h : y ∈ Finset.univ.filter fun q => d q < d x)
      simp at this

theorem below_eq_iff (x y : Fin n) : below d x = below d y ↔ d x = d y := by
  have h1 := below_lt_iff d x y
  have h2 := below_lt_iff d y x
  constructor
  · intro h
    rcases lt_trichotomy (d x) (d y) with h' | h' | h'
    · have := h2.mpr h'; omega
    · exact h'
    · have := h1.mpr h'; omega
  · intro h
    simp only [h, lt_irrefl, iff_false] at h1 h2
    omega

/-- Greater key first, and of equal keys the lower position. -/
def lexBefore (x y : Fin n) : Bool := decide (d y < d x) || (decide (d x = d y) && decide (x < y))

theorem lexBefore_total : StrictTotalBefore (lexBefore d) := by
  classical
  exact StrictTotalBefore.of_key_then_position (fun a b => decide (b < a)) d (fun a => by simp)
    (fun a b c h h' => by simp only [decide_eq_true_eq] at h h' ⊢; exact h'.trans h)
    (fun a b => by simp only [decide_eq_true_eq]; rcases lt_trichotomy a b with h | h | h <;> simp [h])

/-- A stable sort by the key alone keeps equal keys in the order of their positions. -/
theorem sortPositions_eq : sortPositions n (fun x y => decide (d y < d x)) = sortPositions n (lexBefore d) := by
  have e : (fun x y : Fin n => decide (d y < d x)) = fun x y => decide (below d y < below d x) := by
    funext x y; simp only [below_lt_iff]
  refine (lexBefore_total d).eq_stableSort_of_sorted (perm_sortPositions n _) ?_
  rw [e]
  refine (Idealize.ShloMosaic.PlanTiles.pairwise_stableSort_lex (below d) (· < ·) _ (List.pairwise_lt_finRange n)).imp ?_
  rintro a b (h | ⟨h, h'⟩)
  · have := (below_lt_iff d a b).mp h
    simp [lexBefore, this.le, this.ne]
  · have := (below_eq_iff d a b).mp h
    simp [lexBefore, this, h'.le]

/-- Taking, one after another, the lowest position of the greatest key not taken yet is the front of the sort. -/
theorem sortedFrom_eq_pick {k : ℕ} (hk : k ≤ n) (σ : Fin k → Fin n)
    (h : ∀ i p, (∀ j, j < i → σ j ≠ p) → d p < d (σ i) ∨ d p = d (σ i) ∧ σ i ≤ p)
    (hne : ∀ i j, j < i → σ j ≠ σ i) (i : Fin k) :
    sortedFrom (fun x y => decide (d y < d x)) (i.castLE hk) = σ i := by
  have e : sortedFrom (fun x y : Fin n => decide (d y < d x)) (i.castLE hk) = sortedFrom (lexBefore d) (i.castLE hk) := by
    unfold sortedFrom
    simp only [List.get_eq_getElem, sortPositions_eq]
    rfl
  rw [e]
  have hinj : Function.Injective σ := fun a b hab => by
    rcases lt_trichotomy a b with h' | h' | h'
    · exact absurd hab (hne b a h')
    · exact h'
    · exact absurd hab.symm (hne a b h')
  have key : ∀ (i : Fin k) (p : Fin n), (∀ j, j < i → σ j ≠ p) → lexBefore d p (σ i) = false := fun i p hp => by
    rcases h i p hp with h' | ⟨h', h''⟩
    · simp [lexBefore, h'.le, h'.ne]
    · simp [lexBefore, h', h'']
  exact (lexBefore_total d).sortedFrom_eq_of_prefix hk σ hinj
    (fun i j hij => key i (σ j) fun l hl e => hne j l (hl.trans hij) e)
    (fun i p hp => key i p fun j _ => hp j) i

/-- One lowest position of the greatest key there is. -/
theorem exists_first [NeZero n] (S : Finset (Fin n)) (hS : S.Nonempty) :
    ∃ p ∈ S, ∀ q ∈ S, d q < d p ∨ d q = d p ∧ p ≤ q := by
  obtain ⟨m, hm, hmax⟩ := S.exists_max_image d hS
  obtain ⟨p, hp, hmin⟩ := (S.filter fun q => d q = d m).exists_min_image id ⟨m, by simp [hm]⟩
  simp only [Finset.mem_filter, id] at hp hmin
  refine ⟨p, hp.1, fun q hq => ?_⟩
  rcases (hmax q hq).lt_or_eq with h | h
  · exact .inl (hp.2 ▸ h)
  · exact .inr ⟨h.trans hp.2.symm, hmin q ⟨hq, h⟩⟩

end Order

/-- The host's order of the values is the extended reals'. -/
theorem gt_bit (x y : EReal) : (FloatOps.cmpfTotal (F := Ideal) (φ := .f32) .gt x y == 1#1) = decide (y < x) := by
  show (BitVec.ofBool (decide (y < x)) == 1#1) = decide (y < x)
  cases decide (y < x) <;> rfl

/-- The positions the host's `topK` of a matrix's rows returns. -/
theorem topK_rows {a n k : ℕ} (x : FVec Ideal ⟨2, ![a, n]⟩ .f32) (h : (⟨2, ![a, n]⟩ : Shape).Slices (fun _ => 0) ⟨2, ![a, k]⟩) (hk : k ≤ n)
    (b : Fin a) (i : Fin k) :
    (Host.topK ⟨2, ![a, k]⟩ 1 (FloatOps.cmpfTotal .gt) x h).2 (ValueIdx.ix2 b i)
      = BitVec.ofNat 32 (sortedFrom (fun y z => decide (x (ValueIdx.ix2 b z) < x (ValueIdx.ix2 b y))) (i.castLE hk)).val := by
  have hal : ∀ (j : (⟨2, ![a, n]⟩ : Shape).Idx) (q : Fin n), j.along 1 q = ValueIdx.ix2 (j 0) q := fun j q => by
    funext c
    match c with
    | ⟨0, _⟩ => rfl
    | ⟨1, _⟩ => rfl
  have key : ∀ j : (⟨2, ![a, n]⟩ : Shape).Idx, j = ValueIdx.ix2 b (i.castLE hk) →
      BitVec.ofNat 32 ((j.along 1 (sortedFrom (fun y z : Fin n => FloatOps.cmpfTotal (F := Ideal) (φ := .f32) .gt (x (j.along 1 y)) (x (j.along 1 z)) == 1#1)
        (j 1)) : (⟨2, ![a, n]⟩ : Shape).Idx) 1).val
      = BitVec.ofNat 32 (sortedFrom (fun y z => decide (x (ValueIdx.ix2 b z) < x (ValueIdx.ix2 b y))) (i.castLE hk)).val := by
    rintro _ rfl
    simp only [hal, gt_bit]
    rfl
  unfold Host.topK Host.sort2
  simp only [extractStridedSlice]
  rw [dif_pos (by decide : 1 < 2)]
  refine key _ ?_
  funext c; apply Fin.ext
  match c with
  | ⟨0, _⟩ => exact Nat.zero_add _
  | ⟨1, _⟩ => exact Nat.zero_add _

/-- The same of an array's rows along its last axis. -/
theorem topK_rows3 {m a n k : ℕ} (x : FVec Ideal ⟨3, ![m, a, n]⟩ .f32) (h : (⟨3, ![m, a, n]⟩ : Shape).Slices (fun _ => 0) ⟨3, ![m, a, k]⟩)
    (hk : k ≤ n) (c : Fin m) (b : Fin a) (i : Fin k) :
    (Host.topK ⟨3, ![m, a, k]⟩ 2 (FloatOps.cmpfTotal .gt) x h).2 (ValueIdx.ix3 c b i)
      = BitVec.ofNat 32 (sortedFrom (fun y z => decide (x (ValueIdx.ix3 c b z) < x (ValueIdx.ix3 c b y))) (i.castLE hk)).val := by
  have hal : ∀ (j : (⟨3, ![m, a, n]⟩ : Shape).Idx) (q : Fin n), j.along 2 q = ValueIdx.ix3 (j 0) (j 1) q := fun j q => by
    funext e
    match e with
    | ⟨0, _⟩ => rfl
    | ⟨1, _⟩ => rfl
    | ⟨2, _⟩ => rfl
  have key : ∀ j : (⟨3, ![m, a, n]⟩ : Shape).Idx, j = ValueIdx.ix3 c b (i.castLE hk) →
      BitVec.ofNat 32 ((j.along 2 (sortedFrom (fun y z : Fin n => FloatOps.cmpfTotal (F := Ideal) (φ := .f32) .gt (x (j.along 2 y)) (x (j.along 2 z)) == 1#1)
        (j 2)) : (⟨3, ![m, a, n]⟩ : Shape).Idx) 2).val
      = BitVec.ofNat 32 (sortedFrom (fun y z => decide (x (ValueIdx.ix3 c b z) < x (ValueIdx.ix3 c b y))) (i.castLE hk)).val := by
    rintro _ rfl
    simp only [hal, gt_bit]
    rfl
  unfold Host.topK Host.sort2
  simp only [extractStridedSlice]
  rw [dif_pos (by decide : 2 < 3)]
  refine key _ ?_
  funext e; apply Fin.ext
  match e with
  | ⟨0, _⟩ => exact Nat.zero_add _
  | ⟨1, _⟩ => exact Nat.zero_add _
  | ⟨2, _⟩ => exact Nat.zero_add _

/-! ## The lanes' side -/

/-- The index of a row with its lane put in. -/
theorem lift_row {n m : ℕ} (h : (⟨2, ![n, m]⟩ : Shape).Reduces [1] ⟨1, ![n]⟩) (b : Fin n) (k : Fin m) :
    h.lift (ValueIdx.ix1 b) k = ValueIdx.ix2 b k := by
  funext a; apply Fin.ext
  match a with
  | ⟨0, _⟩ => rfl
  | ⟨1, _⟩ => rfl

/-- A row vector as a column. -/
theorem column_at {α : Type} {n : ℕ} (v : (⟨1, ![n]⟩ : Shape).Idx → α) (h : (⟨1, ![n]⟩ : Shape).ShapeCasts ⟨2, ![n, 1]⟩) (b : Fin n) :
    shapeCast ⟨2, ![n, 1]⟩ v h (ValueIdx.ix2 b 0) = v (ValueIdx.ix1 b) := by
  refine shapeCast_apply v h _ _ ?_
  rw [Shape.rowMajor_val_one, Shape.rowMajor_val_two]
  show b.val = b.val * 1 + 0
  omega

/-- A column in every lane. -/
theorem spread_at {α : Type} {n m : ℕ} (v : (⟨2, ![n, 1]⟩ : Shape).Idx → α) (h : (⟨2, ![n, 1]⟩ : Shape).Broadcasts ⟨2, ![n, m]⟩) (b : Fin n)
    (k : Fin m) : broadcastTo ⟨2, ![n, m]⟩ v h (ValueIdx.ix2 b k) = v (ValueIdx.ix2 b 0) := by
  refine broadcastTo_apply v h _ _ fun a => ?_
  match a with
  | ⟨0, _⟩ =>
    show b.val = if n = 1 then 0 else b.val
    split <;> omega
  | ⟨1, _⟩ => rfl

/-- A fold of the signed minimum is the least of the values, given as one of them. -/
theorem fold_minsi {n : ℕ} (f : Fin n → BitVec 32) (b : BitVec 32) (p : Fin n) (hp : ∀ q, (f p).toInt ≤ (f q).toInt)
    (hb : (f p).toInt ≤ b.toInt) : (Finset.univ : Finset (Fin n)).fold IntOp.minsi b f = f p := by
  have hto : ∀ x y : BitVec 32, (IntOp.minsi x y).toInt = min x.toInt y.toInt := fun x y => by
    unfold IntOp.minsi
    split <;> simp_all [BitVec.sle, BitVec.slt] <;> omega
  apply BitVec.eq_of_toInt_eq
  apply le_antisymm
  · exact (Finset.fold_op_rel_iff_or (r := fun x y : BitVec 32 => y.toInt ≤ x.toInt) (c := f p) (b := b) (f := f)
      (s := Finset.univ) (op := IntOp.minsi) (fun {x y z} => by simp [hto])).mpr (.inr ⟨p, Finset.mem_univ _, le_refl _⟩)
  · exact (Finset.fold_op_rel_iff_and (r := fun x y : BitVec 32 => x.toInt ≤ y.toInt) (c := f p) (b := b) (f := f)
      (s := Finset.univ) (op := IntOp.minsi) (fun {x y z} => by simp [hto])).mpr ⟨hb, fun q _ => hp q⟩

/-- The lowest lane whose value is `m`, the other lanes counting as a number past every lane. -/
theorem fold_minsi_lane {n : ℕ} (hn : n ≤ 8192) (d : Fin n → EReal) (p : Fin n) (hp : ∀ q, d q = d p → p ≤ q) :
    (Finset.univ : Finset (Fin n)).fold IntOp.minsi 2147483647#32
      (fun q => bif decide (d q = d p) then BitVec.ofNat 32 q.val else 1073741824#32) = BitVec.ofNat 32 p.val := by
  have hl : ∀ q : Fin n, (BitVec.ofNat 32 q.val).toInt = q.val := fun q => by
    have := q.isLt
    rw [BitVec.toInt_eq_toNat_of_lt] <;> rw [BitVec.toNat_ofNat] <;> omega
  have := fold_minsi (fun q : Fin n => bif decide (d q = d p) then BitVec.ofNat 32 q.val else 1073741824#32) 2147483647#32 p
    (fun q => by
      by_cases h : d q = d p
      · simp only [h, decide_true, cond_true, hl]; exact_mod_cast hp q h
      · simp only [h, decide_true, decide_false, cond_true, cond_false, hl]; have := p.isLt; simp; omega)
    (by simp only [decide_true, cond_true, hl]; have := p.isLt; simp; omega)
  simpa using this

/-- The greatest of a fiber, named by a position. -/
theorem fold_max_eq {n : ℕ} (d : Fin n → EReal) (b : EReal) (p : Fin n) (hb : b ≤ d p) (hp : ∀ q, d q ≤ d p) :
    (Finset.univ : Finset (Fin n)).fold max b d = d p :=
  le_antisymm ((Finset.fold_max_le _).mpr ⟨hb, fun q _ => hp q⟩) ((Finset.le_fold_max _).mpr (.inr ⟨p, Finset.mem_univ _, le_refl _⟩))

/-- The least of a fiber, named by a position. -/
theorem fold_min_eq {n : ℕ} (d : Fin n → EReal) (b : EReal) (p : Fin n) (hb : d p ≤ b) (hp : ∀ q, d p ≤ d q) :
    (Finset.univ : Finset (Fin n)).fold min b d = d p :=
  le_antisymm ((Finset.fold_min_le _).mpr (.inr ⟨p, Finset.mem_univ _, le_refl _⟩)) ((Finset.le_fold_min _).mpr ⟨hb, fun q _ => hp q⟩)

end Cert.Proof.Rank
-- ==== Proof.FpsRefTrip.lean ====
/-
  One trip of the farthest-point reference, element by element: what it gathers, the distances it leaves, the point it
  starts the next trip at and the row it writes.
-/
module

public import proofs.«01_k».proof.Proof.Rank
public import proofs.«01_k».proof.Proof.Gen.FpsRefIdeal
public import proofs.«01_k».proof.Proof.Gen.FpsRefIdeal.Run
public import Idealize.ShloMosaic.PureOps.Ideal.Laws
public import Idealize.ShloMosaic.Lib.IdealHost
public import Idealize.ShloMosaic.Lib.WordCmp
public import Idealize.ShloMosaic.Lib.Pipeline.Value

@[expose] public section

set_option maxRecDepth 16384

noncomputable section

namespace Cert.Proof.FpsRefTrip

open Idealize.ShloMosaic hiding ix1 ix2 ix3 eq_ix1 eq_ix2 eq_ix3
open Idealize.ShloMosaic.ValueIdx Idealize.ShloMosaic.StableHlo
open Cert.FpsRefIdeal Cert.FpsRefIdeal.Gen Cert.FpsRefIdeal.Value Cert.Proof.Rank

/-- The gather reads, of each batch, the row named. -/
theorem gather_at {α : Type} (x : S8x8192x3.Idx → α) (idx : IVec S8x1x1 32) (b : Fin 8) (r : Fin 3) (p : Fin 8192)
    (hp : idx (ix3 b 0 0) = BitVec.ofNat 32 p.val) :
    Host.gather gather_S8x8192x3_S8x1x1_S8x1x3_2_1_0_0_1_2_113 x idx (ix3 b 0 r) = x (ix3 b p r) := by
  unfold Host.gather
  congr 1
  funext a
  refine Fin.ext ?_
  show GatherDims.start _ (ix3 b 0 r) idx a + GatherDims.batchCoord _ (ix3 b 0 r) a + GatherDims.offCoord _ (ix3 b 0 r) a = _
  have hs : GatherDims.siIdx gather_S8x8192x3_S8x1x1_S8x1x3_2_1_0_0_1_2_113 (ix3 b 0 r) ⟨0, by decide⟩ = ix3 b 0 0 := by
    funext c
    match c with
    | ⟨0, _⟩ => rfl
    | ⟨1, _⟩ => rfl
    | ⟨2, _⟩ => rfl
  match a with
  | ⟨0, _⟩ =>
    show 0 + b.val + 0 = b.val
    omega
  | ⟨1, _⟩ =>
    show min (idx (GatherDims.siIdx gather_S8x8192x3_S8x1x1_S8x1x3_2_1_0_0_1_2_113 (ix3 b 0 r) ⟨0, by decide⟩)).toInt.toNat 8191 + 0 + 0 = p.val
    rw [hs, hp, BitVec.toInt_eq_toNat_of_lt] <;> rw [BitVec.toNat_ofNat] <;> omega
  | ⟨2, _⟩ =>
    show 0 + 0 + r.val = r.val
    omega

variable (V : Valuation τ sig (Elt Ideal))

/-- The points, the points a trip starts at, the distances and the rows written so far, as the loop carries them. -/
abbrev X : FVec Ideal S8x8192x3 .f32 := V (Proc.devRef .tc main_v3_0)
abbrev far : IVec S8 32 := V (Proc.devRef .tc main_v3_3)
abbrev dist : FVec Ideal S8x8192 .f32 := V (Proc.devRef .tc main_v3_2)
abbrev chosen : FVec Ideal S512x8x3 .f32 := V (Proc.devRef .tc main_v3_4)

/-- What a trip gathers, and the distances it leaves. -/
abbrev point : S8x1x3.Idx → EReal := res_main_while0b_v6 V
abbrev lowered : S8x8192.Idx → EReal := res_main_while0b_v11 V

/-- The gathered points. -/
theorem point_at (b : Fin 8) (r : Fin 3) (p : Fin 8192) (hp : far V (ix1 b) = BitVec.ofNat 32 p.val) :
    point V (ix3 b 0 r) = X V (ix3 b p r) := by
  unfold point res_main_while0b_v6
  refine gather_at _ _ b r p ?_
  have h5 : (res_main_while0b_v5 V : IVec S8x1x1 32) (ix3 b 0 0) = BitVec.ofNat 32 p.val := by
    unfold res_main_while0b_v5
    refine (broadcastInDim_apply _ _ _ _ (ix1 b) fun a => ?_).trans hp
    match a with
    | ⟨0, _⟩ => rfl
  show Scalar.select (IntOp.cmpi .slt ((res_main_while0b_v5 V : IVec S8x1x1 32) (ix3 b 0 0)) 0#32) _ ((res_main_while0b_v5 V : IVec S8x1x1 32) (ix3 b 0 0)) = _
  rw [h5]
  have : IntOp.cmpi .slt (BitVec.ofNat 32 p.val) 0#32 = 0#1 := by
    show BitVec.ofBool ((BitVec.ofNat 32 p.val).slt 0#32) = 0#1
    rw [BitVec.slt_eq_decide, BitVec.toInt_eq_toNat_of_lt (by rw [BitVec.toNat_ofNat]; omega), decide_eq_false (by simp; omega)]
    rfl
  rw [this]
  rfl

/-- The distances a trip leaves. -/
theorem dist_at (b : Fin 8) (n p : Fin 8192) (hp : far V (ix1 b) = BitVec.ofNat 32 p.val) :
    lowered V (ix2 b n)
      = min (dist V (ix2 b n)) (((X V (ix3 b n 0) - X V (ix3 b p 0)) * (X V (ix3 b n 0) - X V (ix3 b p 0))
          + (X V (ix3 b n 1) - X V (ix3 b p 1)) * (X V (ix3 b n 1) - X V (ix3 b p 1)))
          + (X V (ix3 b n 2) - X V (ix3 b p 2)) * (X V (ix3 b n 2) - X V (ix3 b p 2))) := by
  have h8 : ∀ r : Fin 3, (res_main_while0b_v8 V : FVec Ideal S8x8192x3 .f32) (ix3 b n r) = X V (ix3 b n r) - X V (ix3 b p r) := fun r => by
    unfold res_main_while0b_v8
    refine congrArg (X V (ix3 b n r) - ·) ((broadcastInDim_apply _ _ _ _ (ix3 b 0 r) fun a => ?_).trans (point_at V b r p hp))
    match a with
    | ⟨0, _⟩ => rfl
    | ⟨1, _⟩ => rfl
    | ⟨2, _⟩ => rfl
  unfold lowered res_main_while0b_v11
  refine congrArg (min (dist V (ix2 b n))) ?_
  refine (hostReduceAdd_apply _ _ _ _ _).trans ?_
  refine (Ideal.hostReduceAdd_single reducesTo_S8x8192x3_S8x8192_d2 (by decide) _ _ _).trans ?_
  have hl : ∀ r : Fin 3, (by decide : S8x8192x3.Reduces [2] S8x8192).lift (ix2 b n) r = ix3 b n r := fun r => by
    funext c; apply Fin.ext
    match c with
    | ⟨0, _⟩ => rfl
    | ⟨1, _⟩ => rfl
    | ⟨2, _⟩ => rfl
  refine (congrArg₂ (· + ·) (Ideal.ofBits_zero_f32) (Fin.sum_univ_three _)).trans ?_
  rw [zero_add]
  refine congrArg₂ (· + ·) (congrArg₂ (· + ·) ?_ ?_) ?_ <;> rw [hl] <;> exact congrArg₂ (· * ·) (h8 _) (h8 _)

/-- The point the next trip starts at. -/
theorem far_at (b : Fin 8) (p : Fin 8192)
    (hp : ∀ q, lowered V (ix2 b q) < lowered V (ix2 b p)
      ∨ lowered V (ix2 b q) = lowered V (ix2 b p) ∧ p ≤ q) :
    (step_main_v3_3 V : IVec S8 32) (ix1 b) = BitVec.ofNat 32 p.val := by
  unfold step_main_v3_3
  refine (shapeCast_apply _ shapeCasts_S8x1_S8 (ix1 b) (ix2 b 0) ?_).trans ?_
  · rw [Shape.rowMajor_val_one, Shape.rowMajor_val_two]
    show b.val * 1 + 0 = b.val
    omega
  · refine (topK_rows _ _ (by decide) b 0).trans ?_
    rw [sortedFrom_eq_pick (fun q => lowered V (ix2 b q)) (k := 1) (by decide) (fun _ => p)
      (fun _ q _ => hp q) (fun i j h => absurd h (by omega)) 0]

/-- The row a trip writes. -/
theorem chosen_at (k : ℕ) (hk : k < 512) (hc : (V (Proc.devRef .tc main_v3_1) : IVec S_ 32) = constantI S_ 32 (BitVec.ofNat 32 k))
    (j : Fin 512) (b : Fin 8) (r : Fin 3) :
    (step_main_v3_4 V : FVec Ideal S512x8x3 .f32) (ix3 j b r)
      = if j.val = k then point V (ix3 b 0 r) else chosen V (ix3 j b r) := by
  unfold step_main_v3_4
  refine (congrFun (WordCmp.dynamicUpdateSlice_eq_update (s := S512x8x3) (u := S1x8x3) _ _ _ _ ![k, 0, 0] ⟨rfl, fun a => ?_⟩ fun a => ?_) _).trans ?_
  · match a with
    | ⟨0, _⟩ => exact hk
    | ⟨1, _⟩ => exact le_refl _
    | ⟨2, _⟩ => exact le_refl _
  · match a with
    | ⟨0, _⟩ =>
      show ((V (Proc.devRef .tc main_v3_1) : IVec S_ 32) (Shape.Idx.first h_S_)).toInt = (k : Int)
      rw [hc]
      show (BitVec.ofNat 32 k).toInt = k
      rw [BitVec.toInt_eq_toNat_of_lt] <;> rw [BitVec.toNat_ofNat] <;> omega
    | ⟨1, _⟩ => rfl
    | ⟨2, _⟩ => rfl
  · unfold updateSlice
    split
    · next h =>
      have hj : j.val = k := by
        have h0 : k ≤ j.val ∧ j.val < k + 1 := h 0
        omega
      rw [if_pos hj]
      refine (broadcastInDim_apply _ _ _ _ (ix2 b r) fun a => ?_).trans ?_
      · match a with
        | ⟨0, _⟩ => rfl
        | ⟨1, _⟩ => rfl
      · refine shapeCast_apply _ _ _ (ix3 b 0 r) ?_
        rw [Shape.rowMajor_val_two, Shape.rowMajor_val_three]
        show (b.val * 1 + 0) * 3 + r.val = b.val * 3 + r.val
        omega
    · next h =>
      rw [if_neg fun e => h fun a => ?_]
      match a with
      | ⟨0, _⟩ => exact (show k ≤ j.val ∧ j.val < k + 1 by omega)
      | ⟨1, _⟩ => exact (show 0 ≤ b.val ∧ b.val < 0 + 8 by omega)
      | ⟨2, _⟩ => exact (show 0 ≤ r.val ∧ r.val < 0 + 3 by omega)

end Cert.Proof.FpsRefTrip
-- ==== Proof.FpsValue.lean ====
/-
  The value of the farthest-point kernel: at the extended reals its trips are the reference's. A one-hot sum reads the
  coordinates the reference gathers, the two orders in which the three squares are added agree, and the lowest lane of the
  greatest distance is the position the reference's `topK` of one returns.
-/
module

public import proofs.«01_k».proof.Proof.FpsIdealLaunch
public import proofs.«01_k».proof.Proof.FpsRefTrip
public import Idealize.ShloMosaic.PureOps.Ideal.Laws
public import Idealize.ShloMosaic.Lib.IdealHost
public import Idealize.ShloMosaic.Lib.StableHlo.RunRead

@[expose] public section

set_option maxRecDepth 16384

noncomputable section

namespace Cert.Proof.FpsValue

open Idealize.ShloMosaic hiding ix1 ix2 ix3 eq_ix1 eq_ix2 eq_ix3
open Idealize.ShloMosaic.ValueIdx
open Cert.Proof.FpsIdeal Cert.Proof.Rank

/-! ## The kernel's trip, element by element -/

section Kernel
open Cert.FpsIdeal Cert.FpsIdeal.Gen

theorem lane_at (b : Fin 8) (k : Fin 8192) : lanes (ix2 b k) = BitVec.ofNat 32 k.val := by
  show BitVec.ofNat 32 (0 * 8192 + k.val) = _
  rw [Nat.zero_mul, Nat.zero_add]

/-- The one-hot sum over a row is the row's element at the lane named. -/
theorem onehot_at (v : FVec Ideal S8x8192 .f32) (far : IVec S8x1 32) (b : Fin 8) (p : Fin 8192)
    (hp : far (ix2 b 0) = BitVec.ofNat 32 p.val) : k0_pay11 v lanes far (ix2 b 0) = v (ix2 b p) := by
  have hm : ∀ k : Fin 8192, k0_pay10 lanes far (ix2 b k) = BitVec.ofBool (decide (k = p)) := fun k => by
    show IntOp.cmpi .eq (lanes (ix2 b k)) (broadcastTo S8x8192 far broadcasts_S8x1_S8x8192 (ix2 b k)) = _
    rw [spread_at far broadcasts_S8x1_S8x8192 b k, hp, lane_at]
    show BitVec.ofBool (BitVec.ofNat 32 k.val == BitVec.ofNat 32 p.val) = _
    congr 1
    rw [Bool.eq_iff_iff, beq_iff_eq, decide_eq_true_iff]
    refine ⟨fun h => Fin.ext ?_, fun h => h ▸ rfl⟩
    have := congrArg BitVec.toNat h
    simp only [BitVec.toNat_ofNat] at this
    omega
  unfold k0_pay11
  refine (column_at _ _ b).trans ?_
  refine (Ideal.multiReduction_add_single _ _ _ _ _ _).trans ?_
  refine (Finset.sum_eq_single p (fun k _ hk => ?_) fun h => absurd (Finset.mem_univ _) h).trans ?_
  · rw [lift_row]
    show Scalar.select (k0_pay10 lanes far (ix2 b k)) (v (ix2 b k)) (Ideal.ofBits .f32 0x00000000#32) = 0
    rw [hm, decide_eq_false hk]
    exact Ideal.ofBits_zero_f32
  · rw [lift_row]
    show Scalar.select (k0_pay10 lanes far (ix2 b p)) (v (ix2 b p)) (Ideal.ofBits .f32 0x00000000#32) = _
    rw [hm, decide_eq_true rfl]
    rfl

section
variable (v0 v2 v4 : FVec Ideal S1x8x8192 .f32) (c0 c1 c2 : FVec Ideal S8x1 .f32) (dist : FVec Ideal S8x8192 .f32)

/-- The distances a trip leaves. -/
theorem lowered_at (b : Fin 8) (n : Fin 8192) : k0_pay7 v0 v2 v4 c0 c1 c2 dist (ix2 b n)
    = min (dist (ix2 b n)) (((k0_pay1 v0 (ix2 b n) - c0 (ix2 b 0)) * (k0_pay1 v0 (ix2 b n) - c0 (ix2 b 0))
        + (k0_pay3 v4 (ix2 b n) - c2 (ix2 b 0)) * (k0_pay3 v4 (ix2 b n) - c2 (ix2 b 0)))
        + (k0_pay2 v2 (ix2 b n) - c1 (ix2 b 0)) * (k0_pay2 v2 (ix2 b n) - c1 (ix2 b 0))) := by
  have h : ∀ (x : FVec Ideal S8x8192 .f32) (c : FVec Ideal S8x1 .f32),
      subf x (broadcastTo S8x8192 c broadcasts_S8x1_S8x8192) (ix2 b n) = x (ix2 b n) - c (ix2 b 0) := fun x c =>
    congrArg (x (ix2 b n) - ·) (spread_at c broadcasts_S8x1_S8x8192 b n)
  unfold k0_pay7
  exact congrArg (min (dist (ix2 b n))) (congrArg₂ (· + ·) (congrArg₂ (· + ·)
    (congrArg₂ (· * ·) (h _ _) (h _ _)) (congrArg₂ (· * ·) (h _ _) (h _ _))) (congrArg₂ (· * ·) (h _ _) (h _ _)))

/-- The point the next trip starts at: the first of the greatest distance. -/
theorem next_at (b : Fin 8) (p : Fin 8192)
    (hp : ∀ q, k0_pay7 v0 v2 v4 c0 c1 c2 dist (ix2 b q) < k0_pay7 v0 v2 v4 c0 c1 c2 dist (ix2 b p)
      ∨ k0_pay7 v0 v2 v4 c0 c1 c2 dist (ix2 b q) = k0_pay7 v0 v2 v4 c0 c1 c2 dist (ix2 b p) ∧ p ≤ q) :
    k0_pay9 v0 v2 v4 c0 c1 c2 dist (ix2 b 0) = BitVec.ofNat 32 p.val := by
  unfold k0_pay9
  generalize k0_pay7 v0 v2 v4 c0 c1 c2 dist = y at hp ⊢
  have hmax : multiReduction .maximumf [1] S8 y 0xFF800000#32 reduces_S8x8192_S8 (.inl rfl) rfl (ix1 b) = y (ix2 b p) := by
    refine (Ideal.multiReduction_maximumf_single _ _ _ _ _ _).trans ?_
    refine (Finset.fold_congr (g := fun q : Fin 8192 => y (ix2 b q)) fun q _ => congrArg y (lift_row _ b q)).trans ?_
    refine fold_max_eq _ _ p ?_ fun q => (hp q).elim le_of_lt fun h => h.1.le
    show Ideal.ofBits .f32 0xFF800000#32 ≤ _
    simp [Ideal.ofBits, Ideal.ieee]
  refine (column_at _ _ b).trans ?_
  refine (congrFun (multiReductionI_eq_reduceFold _ _ _ _ _) _).trans ?_
  refine (reduceFold_eq_fold _ _ _ _ _).trans ?_
  refine (Shape.Reduces.fold_filter_drop_single _ _ _ _ _).trans ?_
  refine Eq.trans (Finset.fold_congr fun q _ => ?_) (fold_minsi_lane (le_refl _) (fun q => y (ix2 b q)) p fun q h => ?_)
  · refine (congrArg _ (lift_row reduces_S8x8192_S8 b q)).trans ?_
    refine (congrArg (fun z => Scalar.select (Ideal.cmp .oeq (y (ix2 b q)) z) (lanes (ix2 b q)) 1073741824#32)
      ((spread_at _ broadcasts_S8x1_S8x8192 b q).trans ((column_at _ _ b).trans hmax))).trans ?_
    show Scalar.select (BitVec.ofBool (decide (y (ix2 b q) = y (ix2 b p)))) (lanes (ix2 b q)) 1073741824#32 = _
    refine (congrArg (fun l => Scalar.select (BitVec.ofBool (decide (y (ix2 b q) = y (ix2 b p)))) l 1073741824#32) (lane_at b q)).trans ?_
    cases decide (y (ix2 b q) = y (ix2 b p)) <;> rfl
  · rcases hp q with h' | h'
    · exact absurd h h'.ne
    · exact h'.2

end

/-! ## The points' coordinates as the kernel reads them -/

section
variable (x : FVec Ideal S8x8192x3 .f32)

/-- The points as @main hands them to the kernel. -/
abbrev turned : FVec Ideal S3x8x8192 .f32 := transpose S3x8x8192 [2, 0, 1] x transposes_S8x8192x3_S3x8x8192_2_0_1

theorem turned_at (r : Fin 3) (b : Fin 8) (n : Fin 8192) : turned x (ix3 r b n) = x (ix3 b n r) :=
  congrArg x (funext fun a => Fin.ext (match a with | ⟨0, _⟩ => rfl | ⟨1, _⟩ => rfl | ⟨2, _⟩ => rfl))

/-- One row of the points, as a window of them. -/
theorem window_row (y : FVec Ideal S3x8x8192 .f32) (r : Fin 3) (inb : ∀ a, ![r.val, 0, 0] a + S1x8x8192.size a ≤ S3x8x8192.size a) (b : Fin 8)
    (n : Fin 8192) : VecWindow.window (s := S3x8x8192) y ![r.val, 0, 0] S1x8x8192.size inb (ix3 0 b n) = y (ix3 r b n) := by
  refine congrArg y (funext fun a => Fin.ext ?_)
  rw [Rect.emb_apply]
  match a with
  | ⟨0, _⟩ => rfl
  | ⟨1, _⟩ => exact (Nat.zero_add _).trans (Nat.one_mul b.val)
  | ⟨2, _⟩ => exact (Nat.zero_add _).trans (Nat.one_mul n.val)

theorem coords0 (b : Fin 8) (n : Fin 8192) : k0_pay1 (row0 (F := Ideal) (turned x)) (ix2 b n) = x (ix3 b n 0) :=
  (shapeCast_1ab_ab_apply _ _ _ _).trans ((window_row (turned x) 0 _ b n).trans (turned_at x 0 b n))

theorem coords1 (b : Fin 8) (n : Fin 8192) : k0_pay2 (row1 (F := Ideal) (turned x)) (ix2 b n) = x (ix3 b n 1) :=
  (shapeCast_1ab_ab_apply _ _ _ _).trans ((window_row (turned x) 1 _ b n).trans (turned_at x 1 b n))

theorem coords2 (b : Fin 8) (n : Fin 8192) : k0_pay3 (row2 (F := Ideal) (turned x)) (ix2 b n) = x (ix3 b n 2) :=
  (shapeCast_1ab_ab_apply _ _ _ _).trans ((window_row (turned x) 2 _ b n).trans (turned_at x 2 b n))

/-- The kernel's state before trip `k`, and the coordinates trip `k` reads. -/
abbrev st (k : ℕ) := at_ (F := Ideal) (row0 (F := Ideal) (turned x)) (row1 (F := Ideal) (turned x)) (row2 (F := Ideal) (turned x)) k
abbrev co (k : ℕ) := coord (F := Ideal) (row0 (F := Ideal) (turned x)) (row1 (F := Ideal) (turned x)) (row2 (F := Ideal) (turned x)) k

theorem co_at (k : ℕ) (b : Fin 8) (p : Fin 8192) (hp : (st x k).1 (ix2 b 0) = BitVec.ofNat 32 p.val) (r : Fin 3) :
    co x k r (ix2 b 0) = x (ix3 b p r) :=
  match r with
  | 0 => (onehot_at _ _ b p hp).trans (coords0 x b p)
  | 1 => (onehot_at _ _ b p hp).trans (coords1 x b p)
  | 2 => (onehot_at _ _ b p hp).trans (coords2 x b p)

theorem st_succ (k : ℕ) : st x (k + 1)
    = (k0_pay9 (row0 (F := Ideal) (turned x)) (row1 (F := Ideal) (turned x)) (row2 (F := Ideal) (turned x)) (co x k 0) (co x k 1) (co x k 2) (st x k).2,
      k0_pay8 (row0 (F := Ideal) (turned x)) (row1 (F := Ideal) (turned x)) (row2 (F := Ideal) (turned x)) (co x k 0) (co x k 1) (co x k 2) (st x k).2) :=
  at_succ _ _ _ k

theorem st_succ_far (k : ℕ) (b : Fin 8) : (st x (k + 1)).1 (ix2 b 0)
    = k0_pay9 (row0 (F := Ideal) (turned x)) (row1 (F := Ideal) (turned x)) (row2 (F := Ideal) (turned x)) (co x k 0) (co x k 1) (co x k 2) (st x k).2 (ix2 b 0) := by
  rw [st_succ]

theorem st_succ_dist (k : ℕ) (b : Fin 8) (n : Fin 8192) : (st x (k + 1)).2 (ix2 b n)
    = k0_pay7 (row0 (F := Ideal) (turned x)) (row1 (F := Ideal) (turned x)) (row2 (F := Ideal) (turned x)) (co x k 0) (co x k 1) (co x k 2) (st x k).2 (ix2 b n) := by
  rw [st_succ]
  unfold k0_pay8
  dsimp only
  rw [shapeCast_self]

end

end Kernel

/-! ## Trip by trip -/

section Trips
open Cert.FpsRefIdeal Cert.FpsRefIdeal.Gen Cert.FpsRefIdeal.Value Cert.Proof.FpsRefTrip Idealize.ShloMosaic.StableHlo

/-- Before trip `k` the reference's loop carries what the kernel's does. -/
structure Same (x : FVec Ideal S8x8192x3 .f32) (V : Valuation τ sig (Elt Ideal)) (k : ℕ) : Prop where
  pts : X V = x
  num : (V (Proc.devRef .tc main_v3_1) : IVec S_ 32) = constantI S_ 32 (BitVec.ofNat 32 k)
  dst : ∀ (b : Fin 8) (n : Fin 8192), dist V (ix2 b n) = (st x k).2 (ix2 b n)
  far : ∀ b : Fin 8, ∃ p : Fin 8192, far V (ix1 b) = BitVec.ofNat 32 p.val ∧ (st x k).1 (ix2 b 0) = BitVec.ofNat 32 p.val
  row : ∀ (j : Fin 512) (b : Fin 8) (r : Fin 3), j.val < k → chosen V (ix3 j b r) = co x j.val r (ix2 b 0)

theorem same_step (x : FVec Ideal S8x8192x3 .f32) (V : Valuation τ sig (Elt Ideal)) (k : ℕ) (hk : k < 512) (h : Same x V k) :
    Same x (STEP V) (k + 1) := by
  have hlow : ∀ (b : Fin 8) (n : Fin 8192), lowered V (ix2 b n)
      = Cert.FpsIdeal.Gen.k0_pay7 (row0 (F := Ideal) (turned x)) (row1 (F := Ideal) (turned x)) (row2 (F := Ideal) (turned x)) (co x k 0) (co x k 1) (co x k 2) (st x k).2 (ix2 b n) :=
    fun b n => by
      obtain ⟨p, hp, hp'⟩ := h.far b
      rw [dist_at V b n p hp, lowered_at, h.dst, h.pts, co_at x k b p hp' 0, co_at x k b p hp' 1, co_at x k b p hp' 2, coords0, coords1, coords2]
      rw [add_right_comm]
  constructor
  · exact (STEP_main_v3_0 V).trans h.pts
  · refine (STEP_main_v3_1 V).trans ?_
    unfold step_main_v3_1
    rw [h.num]
    funext i
    show BitVec.ofNat 32 k + 1#32 = BitVec.ofNat 32 (k + 1)
    simp only [BitVec.ofNat_add]
  · intro b n
    refine (congrFun (STEP_main_v3_2 V) _).trans ((hlow b n).trans ?_)
    exact (st_succ_dist x k b n).symm
  · intro b
    obtain ⟨p, -, hp⟩ := exists_first (fun q : Fin 8192 => lowered V (ix2 b q)) Finset.univ Finset.univ_nonempty
    have hp' := fun q => hp q (Finset.mem_univ q)
    refine ⟨p, (congrFun (STEP_main_v3_3 V) _).trans (far_at V b p hp'), ?_⟩
    refine (st_succ_far x k b).trans ?_
    refine next_at _ _ _ _ _ _ _ b p fun q => ?_
    rw [← hlow, ← hlow]
    exact hp' q
  · intro j b r hj
    refine (congrFun (STEP_main_v3_4 V) _).trans ((chosen_at V k hk h.num j b r).trans ?_)
    split
    · next e =>
      obtain ⟨p, hp, hp'⟩ := h.far b
      rw [point_at V b r p hp, h.pts, e, co_at x k b p hp' r]
    · next e => exact h.row j b r (by omega)

theorem same_entry (m : (ℓ : Loc nD τ sig) → Buf (Elt Ideal) ℓ) (c : Dev nD) :
    Same (m ((c.tc : Thread nD τ).loc main_arg0)) (entryContents preI m c) 0 := by
  have e0 : X (entryContents preI m c) = m ((c.tc : Thread nD τ).loc main_arg0) := by
    simp only [X, entryContents, afterL_cons, afterL_nil]
    after_reads_simp
    rfl
  have e2 : dist (entryContents preI m c) = fun _ => Ideal.ofBits .f32 0x501502F9#32 := by
    simp only [FpsRefTrip.dist, entryContents, afterL_cons, afterL_nil]
    after_reads_simp
    rfl
  have e3 : far (entryContents preI m c) = fun _ => (0#32 : BitVec 32) := by
    simp only [far, entryContents, afterL_cons, afterL_nil]
    after_reads_simp
    rfl
  constructor
  · exact e0
  · exact ctr_entry m c
  · intro b n
    refine (congrFun e2 _).trans (Eq.symm ?_)
    show Cert.FpsIdeal.Gen.k0_pay4 (F := Ideal) (ix2 b n) = _
    unfold Cert.FpsIdeal.Gen.k0_pay4
    rw [shapeCast_self]
    rfl
  · exact fun b => ⟨0, congrFun e3 _, rfl⟩
  · exact fun j b r hj => absurd hj (Nat.not_lt_zero _)

theorem same_iter (m : (ℓ : Loc nD τ sig) → Buf (Elt Ideal) ℓ) (c : Dev nD) :
    ∀ k, k ≤ 512 → Same (m ((c.tc : Thread nD τ).loc main_arg0)) (STEP^[k] (entryContents preI m c)) k
  | 0, _ => same_entry m c
  | k + 1, hk => by
    rw [Function.iterate_succ_apply']
    exact same_step _ _ k (by omega) (same_iter m c k (by omega))

/-- After its last trip the reference leaves the points the kernel leaves. -/
theorem out_eq (m : (ℓ : Loc nD τ sig) → Buf (Elt Ideal) ℓ) (c : Dev nD) :
    out_main_v4 (STEP^[512] (entryContents preI m c))
      = transpose Cert.FpsIdeal.S8x512x3 [1, 2, 0] (OUT (F := Ideal) (turned (m ((c.tc : Thread nD τ).loc main_arg0)))) Cert.FpsIdeal.Gen.transposes_S3x8x512_S8x512x3_1_2_0 := by
  funext i
  obtain ⟨b, j, r, rfl⟩ : ∃ b j r, i = ix3 b j r := ⟨i 0, i 1, i 2, eq_ix3 i⟩
  have h := (same_iter m c 512 (le_refl _)).row j b r j.isLt
  refine Eq.trans ?_ (h.trans ?_)
  · exact congrArg (chosen _) (funext fun a => Fin.ext (match a with | ⟨0, _⟩ => rfl | ⟨1, _⟩ => rfl | ⟨2, _⟩ => rfl))
  · exact (congrArg (OUT (F := Ideal) (turned (m ((c.tc : Thread nD τ).loc main_arg0))))
      (show _ = ix3 r b j from funext fun a => Fin.ext (match a with | ⟨0, _⟩ => rfl | ⟨1, _⟩ => rfl | ⟨2, _⟩ => rfl))).symm

end Trips

end Cert.Proof.FpsValue
-- ==== Proof.FpsClaims.lean ====
/-
  The claims about the farthest-point call's program: its frame on the machine's words and at the extended reals, and
  its value at the extended reals.
-/
module

public import proofs.«01_k».proof.Proof.FpsLaunch
public import proofs.«01_k».proof.Proof.FpsValue
public import Idealize.ShloMosaic.Lib.Claim

@[expose] public section

noncomputable section

namespace Cert.Proof.FpsClaims

open Idealize.ShloMosaic Idealize.SL.Sem

theorem frame : Cert.quiescent_Fps := fun m ρ _ =>
  (θ_run Cert.Fps.defs _ _).mono (fun _ h => ⟨fun c => (h.1 c).2, h.2⟩) (Fps.run (F := Bits) m ρ)

theorem frame_ideal : Cert.quiescent_FpsIdeal := fun m ρ _ =>
  (θ_run Cert.FpsIdeal.defs _ _).mono (fun _ h => ⟨fun c => (h.1 c).2, h.2⟩) (FpsIdeal.run (F := Ideal) m ρ)

theorem frame_ref : Cert.quiescent_FpsRefIdeal := fun m g _ =>
  (θ_run Cert.FpsRefIdeal.defs _ _).mono (fun r h => ⟨fun c => (h c).2, sem_eq_zero_of_no_sems (by decide) r.2⟩)
    (Cert.FpsRefIdeal.Value.run (F := Ideal) m g)

theorem algebraic : Cert.algebraic_FpsIdeal_FpsRefIdeal := by
  intro m g m' g' _ hagree
  refine ⟨_, (θ_run Cert.FpsIdeal.defs _ _).mono (fun _ h c => h.1 c) (FpsIdeal.run (F := Ideal) m g), ?_⟩
  refine (θ_run Cert.FpsRefIdeal.defs _ _).mono (fun _ h c => ⟨(h c).1.trans ?_, (h c).2⟩) (Cert.FpsRefIdeal.Value.run (F := Ideal) m' g')
  rw [FpsValue.out_eq, hagree c, FpsIdeal.pts_eq]

end Cert.Proof.FpsClaims

end
-- ==== Proof.KnnBlock.lean ====
/-
  The nearest-neighbour kernel's block: 32 rounds. Each round names the first lane of the least distance of every row and
  then puts infinity there; the result's column `j` is the lane that round `j` names, plus the block's bias.
-/
module

public import proofs.«01_k».proof.Proof.Gen.KnnIdeal.Value

@[expose] public section

set_option maxRecDepth 65536

noncomputable section

namespace Cert.Proof.KnnBlock

open Cert.KnnIdeal Cert.KnnIdeal.Gen Idealize.ShloMosaic Idealize.ShloMosaic.TcCoe Idealize.SL.Sem

variable {F : FTy → Type} [FloatOps F]

/-- The lane numbers. -/
abbrev lanes : IVec S512x8192 32 := iota .tc S512x8192 32 [1] iota_S512x8192_d1_w32

/-- Every row's least distance. -/
def mins (d : FVec F S512x8192 .f32) : FVec F S512 .f32 := multiReduction .minimumf [1] S512 d 0x7F800000#32 reduces_S512x8192_S512 (.inl rfl) rfl

/-- The lanes at their row's least distance; elsewhere a number greater than every lane. -/
def cand (d : FVec F S512x8192 .f32) : IVec S512x8192 32 :=
  select (cmpf .oeq d (broadcastTo S512x8192 (shapeCast S512x1 (mins d) shapeCasts_S512_S512x1) broadcasts_S512x1_S512x8192)) lanes
    (broadcast S512x8192 1073741824#32)

/-- The first such lane of every row. -/
def first (d : FVec F S512x8192 .f32) : IVec S512x1 32 :=
  shapeCast S512x1 (multiReductionI .minsi [1] S512 (cand d) 2147483647#32 reduces_S512x8192_S512 rfl) shapeCasts_S512_S512x1

/-- That lane in every place of its row. -/
def mark (d : FVec F S512x8192 .f32) : IVec S512x8192 32 := broadcastTo S512x8192 (first d) broadcasts_S512x1_S512x8192

/-- The distances with infinity at that lane. -/
def drop (d : FVec F S512x8192 .f32) : FVec F S512x8192 .f32 :=
  select (cmpi .eq lanes (mark d)) (broadcast S512x8192 (Scalar.ofBits .f32 0x7F800000#32)) d

/-- A round's column. -/
def col (b : BitVec 32) (d : FVec F S512x8192 .f32) : IVec S512x1 32 := addi (first d) (broadcast S512x1 b)

/-- The distances before round `k`. -/
def dist (d : FVec F S512x8192 .f32) : ℕ → FVec F S512x8192 .f32
  | 0 => d
  | k + 1 => drop (dist d k)

/-! ## The rounds as the body's parts hold them -/

variable (b : BitVec 32) (d : FVec F S512x8192 .f32)

theorem part1 (i : grid0.Coords) (v0 : Vec F S1x512x3 .f32) (v3 : Vec F S3x1x8192 .f32) :
    k0_pay5 i v0 v3 = col (Scalar.muli (BitVec.ofNat 32 (i 0).val) 8192#32) (k0_pay3 v0 v3) ∧ k0_pay6 v0 v3 = drop (k0_pay3 v0 v3)
      ∧ k0_pay7 v0 v3 = mins (drop (k0_pay3 v0 v3)) := ⟨rfl, rfl, rfl⟩

/-- A part that starts with the rows' least distances: three rounds and the next one's candidates. -/
theorem part2 : k0_pay9 b lanes d (mins d) = col b d ∧ k0_pay12 b lanes d (mins d) = col b (drop d) ∧ k0_pay15 b lanes d (mins d) = col b (drop (drop d))
    ∧ k0_pay16 lanes d (mins d) = drop (drop (drop d)) ∧ k0_pay17 lanes d (mins d) = cand (drop (drop (drop d))) := ⟨rfl, rfl, rfl, rfl, rfl⟩

/-- A part that starts with the candidates: four rounds, the last one's distances not yet changed. -/
theorem part3 : k0_pay19 b (cand d) = col b d ∧ k0_pay22 b lanes d (cand d) = col b (drop d) ∧ k0_pay25 b lanes d (cand d) = col b (drop (drop d))
    ∧ k0_pay26 lanes d (cand d) = drop (drop (drop d)) ∧ k0_pay28 b lanes d (cand d) = col b (drop (drop (drop d)))
    ∧ k0_pay29 lanes d (cand d) = mark (drop (drop (drop d))) := ⟨rfl, rfl, rfl, rfl, rfl, rfl⟩

/-- A part that starts with the lanes named: it changes the distances, and makes three rounds. -/
theorem part4 : k0_pay32 b lanes d (mark d) = col b (drop d) ∧ k0_pay35 b lanes d (mark d) = col b (drop (drop d))
    ∧ k0_pay38 b lanes d (mark d) = col b (drop (drop (drop d))) ∧ k0_pay39 lanes d (mark d) = drop (drop (drop (drop d)))
    ∧ k0_pay40 lanes d (mark d) = mins (drop (drop (drop (drop d)))) := ⟨rfl, rfl, rfl, rfl, rfl⟩

/-! The later parts are these three again. -/

theorem part5 : k0_pay42 b lanes d (mins d) = col b d ∧ k0_pay45 b lanes d (mins d) = col b (drop d) ∧ k0_pay48 b lanes d (mins d) = col b (drop (drop d))
    ∧ k0_pay49 lanes d (mins d) = drop (drop (drop d)) ∧ k0_pay50 lanes d (mins d) = cand (drop (drop (drop d))) := part2 b d

theorem part6 : k0_pay52 b (cand d) = col b d ∧ k0_pay55 b lanes d (cand d) = col b (drop d) ∧ k0_pay58 b lanes d (cand d) = col b (drop (drop d))
    ∧ k0_pay59 lanes d (cand d) = drop (drop (drop d)) ∧ k0_pay61 b lanes d (cand d) = col b (drop (drop (drop d)))
    ∧ k0_pay62 lanes d (cand d) = mark (drop (drop (drop d))) := part3 b d

theorem part7 : k0_pay65 b lanes d (mark d) = col b (drop d) ∧ k0_pay68 b lanes d (mark d) = col b (drop (drop d))
    ∧ k0_pay71 b lanes d (mark d) = col b (drop (drop (drop d))) ∧ k0_pay72 lanes d (mark d) = drop (drop (drop (drop d)))
    ∧ k0_pay73 lanes d (mark d) = mins (drop (drop (drop (drop d)))) := part4 b d

theorem part8 : k0_pay75 b lanes d (mins d) = col b d ∧ k0_pay78 b lanes d (mins d) = col b (drop d) ∧ k0_pay81 b lanes d (mins d) = col b (drop (drop d))
    ∧ k0_pay82 lanes d (mins d) = drop (drop (drop d)) ∧ k0_pay83 lanes d (mins d) = cand (drop (drop (drop d))) := part2 b d

theorem part9 : k0_pay85 b (cand d) = col b d ∧ k0_pay88 b lanes d (cand d) = col b (drop d) ∧ k0_pay91 b lanes d (cand d) = col b (drop (drop d))
    ∧ k0_pay92 lanes d (cand d) = drop (drop (drop d)) ∧ k0_pay94 b lanes d (cand d) = col b (drop (drop (drop d)))
    ∧ k0_pay95 lanes d (cand d) = mark (drop (drop (drop d))) := part3 b d

theorem part10 : k0_pay98 b lanes d (mark d) = col b (drop d) ∧ k0_pay101 b lanes d (mark d) = col b (drop (drop d))
    ∧ k0_pay104 b lanes d (mark d) = col b (drop (drop (drop d))) ∧ k0_pay105 lanes d (mark d) = drop (drop (drop (drop d)))
    ∧ k0_pay106 lanes d (mark d) = mins (drop (drop (drop (drop d)))) := part4 b d

theorem last : k0_pay1 b lanes d (mins d) = col b d := rfl

/-! ## The block -/

/-- The distances of a block's centres and points. -/
abbrev dist0 (i : grid0.Coords) (x0 : Vec F S1x512x3 .f32) (x1 : Vec F S3x8x8192 .f32) : FVec F S512x8192 .f32 :=
  k0_pay3 x0 (View.ld x1 (Rect.unit (s := S3x8x8192) (k0_off1 i) S3x1x8192.size (k0_off1_inb i)))

/-- The block's bias. -/
abbrev bias (i : grid0.Coords) : BitVec 32 := Scalar.muli (BitVec.ofNat 32 (i 0).val) 8192#32

theorem hz : (![0, 0, 0] : Fin 3 → Nat) = fun _ => 0 := funext fun a => by fin_cases a <;> rfl

theorem cols_fit (f : Fin 32 → (S512x1.Idx → BitVec 32)) :
    Shape.Concatenates ((List.ofFn fun n : Fin 32 => (⟨S512x1, f n⟩ : (s : Shape) × (s.Idx → BitVec 32))).map (·.1)) S512x32 1 := by
  rw [List.map_ofFn]
  exact concatenates_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x1_S512x32_d1

open kernelRun0_A.sl in
/-- What the body leaves in the output's block: the 32 rounds' columns side by side. -/
theorem out_eq (c : Dev nD) (i : grid0.Coords) (arg2 : Memref sig .tc .vmem S1x512x3 .f32) (harg2 : arg2.IsWhole) (arg3 : Memref sig .tc .vmem S3x8x8192 .f32)
    (harg3 : arg3.IsWhole) (arg4 : Memref sig .tc .vmem S1x512x32 .i32) (harg4 : arg4.IsWhole) (x0 : Vec F S1x512x3 .f32) (x1 : Vec F S3x8x8192 .f32) :
    out0_A_2 c i arg2 harg2 arg3 harg3 arg4 harg4 x0 x1
      = k0_pay2 (concatenate S512x32 1 (List.ofFn fun n : Fin 32 => ⟨S512x1, col (bias i) (dist (dist0 i x0 x1) n)⟩) (cols_fit _)) := by
  unfold out0_A_2 kernelRun0_A
  rw [View.read_writes_junk_eq_canon]
  dsimp only
  refine (View.canon_unit_zero hz inb_S1x512x32_S1x512x32_0_0_0 _).trans ?_
  refine congrArg k0_pay2 (StableHlo.concatenate_congr S512x32 1 ?_ _ _)
  simp only [v28, v29, r, r_1, r_2, r_3, r_4, r_5, r_6, r_7, r_8, r_9, r_10, r_11, r_12, r_13, r_14, r_15, r_16, r_17, r_18, r_19, r_20, r_21, r_22, r_23, r_24,
    r_25, r_26, r_27, r_28, r_29, r_30, r_31, r_32, r_33, r_34, r_35, r_36, r_37, r_38, r_39, r_40, r_41, r_42, r_43, r_44, r_45, r_46, r_47, r_48,
    r_49, r_50,
    View.readAt_eq_ld, harg2.read_unread, harg3.read_unread, View.ld_unit_zero (S := S1x512x3) hz]
  simp only [part1, part2, part3, part4, part5, part6, part7, part8, part9, part10, last]
  rfl

end Cert.Proof.KnnBlock

end
-- ==== Proof.KnnPick.lean ====
/-
  The nearest-neighbour kernel's rounds at the extended reals: round `k` names the first lane of the least distance among
  the lanes not yet named, so the 32 rounds name the front of a stable sort of the row. The distances are below infinity:
  where they were infinite, a lane would be named again.
-/
module

public import proofs.«01_k».proof.Proof.KnnBlock
public import proofs.«01_k».proof.Proof.Rank
public import Idealize.ShloMosaic.PureOps.Ideal.Laws

@[expose] public section

set_option maxRecDepth 16384

noncomputable section

namespace Cert.Proof.KnnPick

open Idealize.ShloMosaic hiding ix1 ix2 ix3 eq_ix1 eq_ix2 eq_ix3
open Idealize.ShloMosaic.ValueIdx
open Cert.KnnIdeal Cert.KnnIdeal.Gen Cert.Proof.KnnBlock Cert.Proof.Rank

theorem lane_at (g : Fin 512) (k : Fin 8192) : lanes (ix2 g k) = BitVec.ofNat 32 k.val := by
  show BitVec.ofNat 32 (0 * 8192 + k.val) = _
  rw [Nat.zero_mul, Nat.zero_add]

theorem inf_bits : Ideal.ofBits .f32 0x7F800000#32 = ⊤ := by simp [Ideal.ofBits, Ideal.ieee]

/-- Lane `p` is the first of row `g`'s least distance. -/
def Least (e : FVec Ideal S512x8192 .f32) (g : Fin 512) (p : Fin 8192) : Prop :=
  ∀ q, e (ix2 g p) < e (ix2 g q) ∨ e (ix2 g p) = e (ix2 g q) ∧ p ≤ q

theorem mins_at (e : FVec Ideal S512x8192 .f32) (g : Fin 512) (p : Fin 8192) (hp : Least e g p) : mins e (ix1 g) = e (ix2 g p) := by
  unfold mins
  refine (congrFun (multiReduction_minimumf_eq_reduceFold _ _ _ _ _) _).trans ?_
  refine (reduceFold_eq_fold _ _ _ _ _).trans ?_
  refine (Shape.Reduces.fold_filter_drop_single _ _ _ _ _).trans ?_
  refine (Finset.fold_congr (g := fun q : Fin 8192 => e (ix2 g q)) fun q _ => congrArg e (lift_row _ g q)).trans ?_
  refine fold_min_eq _ _ p ?_ fun q => (hp q).elim le_of_lt fun h => h.1.le
  exact le_of_le_of_eq le_top inf_bits.symm

/-- A round names that lane. -/
theorem first_at (e : FVec Ideal S512x8192 .f32) (g : Fin 512) (p : Fin 8192) (hp : Least e g p) : first e (ix2 g 0) = BitVec.ofNat 32 p.val := by
  unfold first
  refine (column_at _ _ g).trans ?_
  refine (congrFun (multiReductionI_eq_reduceFold _ _ _ _ _) _).trans ?_
  refine (reduceFold_eq_fold _ _ _ _ _).trans ?_
  refine (Shape.Reduces.fold_filter_drop_single _ _ _ _ _).trans ?_
  refine Eq.trans (Finset.fold_congr fun q _ => ?_) (fold_minsi_lane (le_refl _) (fun q => e (ix2 g q)) p fun q h => ?_)
  · refine (congrArg _ (lift_row reduces_S512x8192_S512 g q)).trans ?_
    refine (congrArg (fun z => Scalar.select (Ideal.cmp .oeq (e (ix2 g q)) z) (lanes (ix2 g q)) 1073741824#32)
      ((spread_at _ broadcasts_S512x1_S512x8192 g q).trans ((column_at _ _ g).trans (mins_at e g p hp)))).trans ?_
    show Scalar.select (BitVec.ofBool (decide (e (ix2 g q) = e (ix2 g p)))) (lanes (ix2 g q)) 1073741824#32 = _
    refine (congrArg (fun l => Scalar.select (BitVec.ofBool (decide (e (ix2 g q) = e (ix2 g p)))) l 1073741824#32) (lane_at g q)).trans ?_
    cases decide (e (ix2 g q) = e (ix2 g p)) <;> rfl
  · rcases hp q with h' | h'
    · exact absurd h h'.ne'
    · exact h'.2

/-- It leaves infinity there, and every other distance as it was. -/
theorem drop_at (e : FVec Ideal S512x8192 .f32) (g : Fin 512) (p : Fin 8192) (hp : Least e g p) (n : Fin 8192) :
    drop e (ix2 g n) = if n = p then ⊤ else e (ix2 g n) := by
  unfold drop
  show Scalar.select (IntOp.cmpi .eq (lanes (ix2 g n)) (mark e (ix2 g n))) (Ideal.ofBits .f32 0x7F800000#32) (e (ix2 g n)) = _
  have hm : mark e (ix2 g n) = BitVec.ofNat 32 p.val := (spread_at _ broadcasts_S512x1_S512x8192 g n).trans (first_at e g p hp)
  have hb : IntOp.cmpi .eq (BitVec.ofNat 32 n.val) (BitVec.ofNat 32 p.val) = BitVec.ofBool (decide (n = p)) := by
    show BitVec.ofBool (BitVec.ofNat 32 n.val == BitVec.ofNat 32 p.val) = _
    refine congrArg BitVec.ofBool ?_
    rw [Bool.eq_iff_iff, beq_iff_eq, decide_eq_true_iff]
    refine ⟨fun h => Fin.ext ?_, fun h => h ▸ rfl⟩
    have := congrArg BitVec.toNat h
    simp only [BitVec.toNat_ofNat] at this
    omega
  rw [hm, lane_at, hb, inf_bits]
  by_cases h : n = p
  · rw [if_pos h, decide_eq_true h]; rfl
  · rw [if_neg h, decide_eq_false h]; rfl

section
variable (d : FVec Ideal S512x8192 .f32) (g : Fin 512)

theorem exists_least (e : FVec Ideal S512x8192 .f32) : ∃ p, Least e g p := by
  obtain ⟨p, -, hp⟩ := exists_first (fun q : Fin 8192 => -e (ix2 g q)) Finset.univ Finset.univ_nonempty
  refine ⟨p, fun q => ?_⟩
  rcases hp q (Finset.mem_univ q) with h | h
  · exact .inl (EReal.neg_lt_neg_iff.mp h)
  · exact .inr ⟨(neg_inj.mp h.1).symm, h.2⟩

/-- The lane that round `k` names. -/
def pick (k : ℕ) : Fin 8192 := (exists_least g (dist d k)).choose

theorem pick_least (k : ℕ) : Least (dist d k) g (pick d g k) := (exists_least g (dist d k)).choose_spec

theorem pick_at (k : ℕ) : first (dist d k) (ix2 g 0) = BitVec.ofNat 32 (pick d g k).val := first_at _ _ _ (pick_least d g k)

theorem dist_named (k j : ℕ) (hj : j < k) : dist d k (ix2 g (pick d g j)) = ⊤ := by
  induction k with
  | zero => exact absurd hj (Nat.not_lt_zero j)
  | succ k ih =>
    refine (drop_at _ g _ (pick_least d g k) _).trans ?_
    split
    · rfl
    · next h => exact ih (lt_of_le_of_ne (Nat.le_of_lt_succ hj) fun e => h (e ▸ rfl))

theorem dist_other (k : ℕ) (n : Fin 8192) (hn : ∀ j, j < k → pick d g j ≠ n) : dist d k (ix2 g n) = d (ix2 g n) := by
  induction k with
  | zero => rfl
  | succ k ih =>
    refine (drop_at _ g _ (pick_least d g k) _).trans ?_
    rw [if_neg fun e => hn k (Nat.lt_succ_self k) e.symm]
    exact ih fun j hj => hn j (hj.trans (Nat.lt_succ_self k))

variable (hd : ∀ n, d (ix2 g n) < ⊤)
include hd

/-- No lane is named twice. -/
theorem pick_ne (k : ℕ) (hk : k < 8192) (j : ℕ) (hj : j < k) : pick d g j ≠ pick d g k := by
  intro e
  obtain ⟨q, -, hq⟩ := Finset.exists_mem_notMem_of_card_lt_card (s := (Finset.range k).image (pick d g)) (t := (Finset.univ : Finset (Fin 8192)))
    (lt_of_le_of_lt Finset.card_image_le (by rw [Finset.card_range, Finset.card_univ, Fintype.card_fin]; exact hk))
  have hq' : ∀ j, j < k → pick d g j ≠ q := fun j hj h => hq (Finset.mem_image.mpr ⟨j, Finset.mem_range.mpr hj, h⟩)
  have ht : dist d k (ix2 g (pick d g k)) = ⊤ := e ▸ dist_named d g k j hj
  have hl : dist d k (ix2 g q) < ⊤ := dist_other d g k q hq' ▸ hd q
  rcases pick_least d g k q with h | h
  · rw [ht] at h; exact absurd h not_top_lt
  · rw [← h.1, ht] at hl; exact absurd hl (lt_irrefl _)

/-- The rounds name the front of the row's order. -/
theorem sorted_pick (x : Fin 8192 → EReal) (hx : ∀ n, x n = -d (ix2 g n)) (i : Fin 32) :
    sortedFrom (fun y z => decide (x z < x y)) (i.castLE (by decide : 32 ≤ 8192)) = pick d g i.val := by
  refine sortedFrom_eq_pick x (by decide) (fun i : Fin 32 => pick d g i.val) (fun i p hp => ?_) (fun i j hj => ?_) i
  · have hp' : ∀ j, j < i.val → pick d g j ≠ p := fun j hj => hp ⟨j, hj.trans i.isLt⟩ hj
    have h := pick_least d g i.val p
    rw [dist_other d g _ p hp', dist_other d g _ _ fun j hj => pick_ne d g hd i.val (by omega) j hj] at h
    rw [hx, hx]
    rcases h with h | h
    · exact .inl (EReal.neg_lt_neg_iff.mpr h)
    · exact .inr ⟨by rw [h.1], h.2⟩
  · exact pick_ne d g hd i.val (by omega) j.val hj

end

end Cert.Proof.KnnPick

end
-- ==== Proof.KnnSpace.lean ====
/-
  The distances of the nearest-neighbour call at the extended reals, as the kernel and the reference compute them: both are
  `|c|² + |p|² - 2 c·p`, each of the three sums over the coordinates.
-/
module

public import proofs.«01_k».proof.Proof.KnnBlock
public import proofs.«01_k».proof.Proof.Rank
public import proofs.«01_k».proof.Proof.Gen.KnnRefIdeal.Run
public import Idealize.ShloMosaic.PureOps.Ideal.Laws
public import Idealize.ShloMosaic.Lib.MatmulPlain
public import Idealize.ShloMosaic.Lib.IdealHost

@[expose] public section

set_option maxRecDepth 16384

noncomputable section

namespace Cert.Proof.KnnSpace

open Idealize.ShloMosaic hiding ix1 ix2 ix3 eq_ix1 eq_ix2 eq_ix3
open Idealize.ShloMosaic.ValueIdx

/-- A sum over the three coordinates, in order. -/
def dot (u v : Fin 3 → EReal) : EReal := u 0 * v 0 + u 1 * v 1 + u 2 * v 2

theorem sum_dot (u v : Fin 3 → EReal) : ∑ r : Fin 3, u r * v r = dot u v := Fin.sum_univ_three _

/-- The distance of a centre from a point. -/
def space (c p : Fin 3 → EReal) : EReal := (dot c c + dot p p) - Ideal.ofBits .f32 0x40000000#32 * dot c p

/-! ## The kernel's -/

section Kernel
open Cert.KnnIdeal Cert.KnnIdeal.Gen Cert.Proof.Rank

/-- A column of the centres, and a row of the points. -/
theorem column (v : FVec Ideal S512x3 .f32) (r : Fin 3) (h : S512x3.Slices ![0, r.val] S512x1) (g : Fin 512) :
    extractStridedSlice S512x1 ![0, r.val] v h (ix2 g 0) = v (ix2 g r) :=
  extractStridedSlice_apply _ v h _ _ fun a => match a with
    | ⟨0, _⟩ => (Nat.zero_add _).symm
    | ⟨1, _⟩ => rfl

theorem row (v : FVec Ideal S3x8192 .f32) (r : Fin 3) (h : S3x8192.Slices ![r.val, 0] S1x8192) (n : Fin 8192) :
    extractStridedSlice S1x8192 ![r.val, 0] v h (ix2 0 n) = v (ix2 r n) :=
  extractStridedSlice_apply _ v h _ _ fun a => match a with
    | ⟨0, _⟩ => rfl
    | ⟨1, _⟩ => (Nat.zero_add _).symm

theorem over (v : FVec Ideal S1x8192 .f32) (h : S1x8192.Broadcasts S512x8192) (g : Fin 512) (n : Fin 8192) :
    broadcastTo S512x8192 v h (ix2 g n) = v (ix2 0 n) :=
  congrArg v (funext fun a => Fin.ext (match a with | ⟨0, _⟩ => rfl | ⟨1, _⟩ => rfl))

theorem points_row (v : FVec Ideal S3x1x8192 .f32) (h : S3x1x8192.ShapeCasts S3x8192) (r : Fin 3) (n : Fin 8192) :
    shapeCast S3x8192 v h (ix2 r n) = v (ix3 r 0 n) :=
  shapeCast_apply v h _ _ (by
    rw [Shape.rowMajor_val_three, Shape.rowMajor_val_two]
    show (r.val * 1 + 0) * 8192 + n.val = r.val * 8192 + n.val
    omega)

theorem kernel_at (v0 : FVec Ideal S1x512x3 .f32) (v3 : FVec Ideal S3x1x8192 .f32) (g : Fin 512) (n : Fin 8192) :
    k0_pay3 (F := Ideal) v0 v3 (ix2 g n) = space (fun r => v0 (ix3 0 g r)) (fun r => v3 (ix3 r 0 n)) := by
  unfold k0_pay3 space
  have hc : ∀ r : Fin 3, shapeCast S512x3 v0 shapeCasts_S1x512x3_S512x3 (ix2 g r) = v0 (ix3 0 g r) := fun r => shapeCast_1ab_ab_apply _ _ _ _
  have hp : ∀ r : Fin 3, shapeCast S3x8192 v3 shapeCasts_S3x1x8192_S3x8192 (ix2 r n) = v3 (ix3 r 0 n) := fun r => points_row _ _ _ _
  generalize shapeCast S512x3 v0 shapeCasts_S1x512x3_S512x3 = x at hc ⊢
  generalize shapeCast S3x8192 v3 shapeCasts_S3x1x8192_S3x8192 = y at hp ⊢
  refine congrArg₂ (· - ·) (congrArg₂ (· + ·) ((spread_at _ _ g n).trans ?_) ((over _ _ g n).trans ?_)) (congrArg (Ideal.ofBits .f32 0x40000000#32 * ·) ?_)
  · have e : ∀ r (h : S512x3.Slices ![0, r.val] S512x1), extractStridedSlice S512x1 ![0, r.val] x h (ix2 g 0) = v0 (ix3 0 g r) :=
      fun r h => (column x r h g).trans (hc r)
    exact congrArg₂ (· + ·) (congrArg₂ (· + ·) (congrArg₂ (· * ·) (e 0 _) (e 0 _)) (congrArg₂ (· * ·) (e 1 _) (e 1 _))) (congrArg₂ (· * ·) (e 2 _) (e 2 _))
  · have e : ∀ r (h : S3x8192.Slices ![r.val, 0] S1x8192), extractStridedSlice S1x8192 ![r.val, 0] y h (ix2 0 n) = v3 (ix3 r 0 n) :=
      fun r h => (row y r h n).trans (hp r)
    exact congrArg₂ (· + ·) (congrArg₂ (· + ·) (congrArg₂ (· * ·) (e 0 _) (e 0 _)) (congrArg₂ (· * ·) (e 1 _) (e 1 _))) (congrArg₂ (· * ·) (e 2 _) (e 2 _))
  · refine (Ideal.matmul_plain_apply none x y _ g n).trans ?_
    refine (congrArg (· + _) Ideal.ofBits_zero_f32).trans ((zero_add _).trans ?_)
    simp only [hc, hp]
    exact sum_dot _ _

end Kernel

/-! ## The reference's -/

section Reference
open Cert.KnnRefIdeal Cert.KnnRefIdeal.Gen

variable (x : FVec Ideal S8x8192x3 .f32) (c : FVec Ideal S8x512x3 .f32)

/-- The reference's distances. -/
def dist : FVec Ideal S8x512x8192 .f32 :=
  subf (addf (broadcastInDim S8x512x8192 ![0, 1, 2] bcast_S8x512x1_S8x512x8192_0_1_2 (broadcastInDim S8x512x1 ![0, 1] bcast_S8x512_S8x512x1_0_1
      (Host.reduceAdd (mulf c c) (constant S_ .f32 0x00000000#32) reducesTo_S8x512x3_S8x512_d2 h_S_)))
    (broadcastInDim S8x512x8192 ![0, 1, 2] bcast_S8x1x8192_S8x512x8192_0_1_2 (broadcastInDim S8x1x8192 ![0, 2] bcast_S8x8192_S8x1x8192_0_2
      (Host.reduceAdd (mulf x x) (constant S_ .f32 0x00000000#32) reducesTo_S8x8192x3_S8x8192_d2 h_S_))))
    (mulf (broadcastInDim S8x512x8192 ![] bcast_S_S8x512x8192 (constant S_ .f32 0x40000000#32))
      (Host.dotGeneral dot_S8x512x3_S8x8192x3_S8x512x8192_2_2_1_1_0_0 none c x))

theorem squares {n : ℕ} (y : FVec Ideal ⟨3, ![8, n, 3]⟩ .f32) (h' : (⟨3, ![8, n, 3]⟩ : Shape).ReducesTo [2] ⟨2, ![8, n]⟩)
    (h : (⟨3, ![8, n, 3]⟩ : Shape).Reduces [2] ⟨2, ![8, n]⟩) (b : Fin 8) (k : Fin n) :
    Host.reduceAdd (mulf y y) (constant S_ .f32 0x00000000#32) h' h_S_ (ix2 b k) = dot (fun r => y (ix3 b k r)) (fun r => y (ix3 b k r)) := by
  refine (hostReduceAdd_apply _ _ _ _ _).trans ?_
  refine (Ideal.hostReduceAdd_single h' h _ _ _).trans ?_
  have hl : ∀ r : Fin 3, h.lift (ix2 b k) r = ix3 b k r := fun r => by
    funext a; apply Fin.ext
    match a with
    | ⟨0, _⟩ => rfl
    | ⟨1, _⟩ => rfl
    | ⟨2, _⟩ => rfl
  refine (congrArg (· + _) Ideal.ofBits_zero_f32).trans ((zero_add _).trans ?_)
  refine (Finset.sum_congr rfl fun r _ => congrArg (mulf y y) (hl r)).trans ?_
  exact sum_dot _ _

theorem products (b : Fin 8) (g : Fin 512) (n : Fin 8192) : Host.dotGeneral dot_S8x512x3_S8x8192x3_S8x512x8192_2_2_1_1_0_0 none c x (ix3 b g n)
    = dot (fun r => c (ix3 b g r)) (fun r => x (ix3 b n r)) := by
  refine (Ideal.dotGeneral_apply _ none _ c x _).trans ?_
  refine (Equiv.sum_comp (contrEquiv1 dot_S8x512x3_S8x8192x3_S8x512x8192_2_2_1_1_0_0 3 rfl rfl).symm _).symm.trans ?_
  refine (Finset.sum_congr rfl fun r _ => ?_).trans (sum_dot _ _)
  have hr := contrEquiv1_symm_val dot_S8x512x3_S8x8192x3_S8x512x8192_2_2_1_1_0_0 3 rfl rfl r
  refine congrArg₂ (· * ·) (congrArg c (funext fun a => Fin.ext ?_)) (congrArg x (funext fun a => Fin.ext ?_))
  · match a with
    | ⟨0, _⟩ => rfl
    | ⟨1, _⟩ => rfl
    | ⟨2, _⟩ => exact hr
  · match a with
    | ⟨0, _⟩ => rfl
    | ⟨1, _⟩ => rfl
    | ⟨2, _⟩ => exact hr

theorem ref_at (b : Fin 8) (g : Fin 512) (n : Fin 8192) :
    dist x c (ix3 b g n) = space (fun r => c (ix3 b g r)) (fun r => x (ix3 b n r)) := by
  unfold dist space
  refine congrArg₂ (· - ·) (congrArg₂ (· + ·) ?_ ?_) (congrArg₂ (· * ·) ?_ (products x c b g n))
  · refine (broadcastInDim_apply _ _ _ _ (ix3 b g 0) fun a => match a with | ⟨0, _⟩ => rfl | ⟨1, _⟩ => rfl | ⟨2, _⟩ => rfl).trans ?_
    refine (broadcastInDim_apply _ _ _ _ (ix2 b g) fun a => match a with | ⟨0, _⟩ => rfl | ⟨1, _⟩ => rfl).trans ?_
    exact squares c _ (by decide) b g
  · refine (broadcastInDim_apply _ _ _ _ (ix3 b 0 n) fun a => match a with | ⟨0, _⟩ => rfl | ⟨1, _⟩ => rfl | ⟨2, _⟩ => rfl).trans ?_
    refine (broadcastInDim_apply _ _ _ _ (ix2 b n) fun a => match a with | ⟨0, _⟩ => rfl | ⟨1, _⟩ => rfl).trans ?_
    exact squares x _ (by decide) b n
  · exact broadcastInDim_scalar_apply _ _ _

end Reference

/-! ## Finite coordinates -/

/-- Between finite coordinates the distance is finite. -/
theorem space_lt_top (c p : Fin 3 → EReal) (hc : ∀ r, ∃ z : ℝ, c r = z) (hp : ∀ r, ∃ z : ℝ, p r = z) : space c p < ⊤ := by
  choose u hu using hc
  choose w hw using hp
  have hd : ∀ (a b : Fin 3 → EReal) (a' b' : Fin 3 → ℝ), (∀ r, a r = a' r) → (∀ r, b r = b' r) →
      dot a b = ((a' 0 * b' 0 + a' 1 * b' 1 + a' 2 * b' 2 : ℝ) : EReal) := fun a b a' b' ha hb => by
    unfold dot
    rw [ha, ha, ha, hb, hb, hb]
    norm_cast
  have h2 : ∃ t : ℝ, Ideal.ofBits .f32 0x40000000#32 = t := by
    simp [Ideal.ofBits, Ideal.ieee]
    exact ⟨_, (EReal.coe_mul _ _).symm⟩
  obtain ⟨t, ht⟩ := h2
  unfold space
  rw [hd c c u u hu hu, hd p p w w hw hw, hd c p u w hu hw, ht]
  norm_cast
  exact EReal.coe_lt_top _

end Cert.Proof.KnnSpace

end
-- ==== Proof.KnnValue.lean ====
/-
  The value of the nearest-neighbour call: at the extended reals, and at finite points and centres, the kernel's block of
  batch `b` holds the positions the reference's `topK` returns for that batch, each with the batch's bias.
-/
module

public import proofs.«01_k».proof.Proof.KnnPick
public import proofs.«01_k».proof.Proof.KnnSpace
public import proofs.«01_k».proof.Proof.Gen.Pre_points_finite
public import Idealize.ShloMosaic.Lib.StableHlo.RunRead
public import Idealize.ShloMosaic.Lib.ReduceAll

@[expose] public section

set_option maxRecDepth 16384

noncomputable section

namespace Cert.Proof.KnnValue

open Idealize.ShloMosaic hiding ix0 ix1 ix2 ix3 eq_ix1 eq_ix2 eq_ix3
open Idealize.ShloMosaic.ValueIdx Idealize.ShloMosaic.TcCoe
open Cert.Proof.KnnSpace (space space_lt_top kernel_at ref_at)

/-! ## The precondition, read -/

section Finite
open Cert.Pre_points_finite Cert.Pre_points_finite.Gen

theorem real_of_abs_lt (z : EReal) (h : Ideal.cmp .olt (max z (-z)) (Ideal.ofBits .f32 0x7F800000#32) = 1#1) : ∃ r : ℝ, z = r := by
  have hlt : max z (-z) < ⊤ := by
    rw [KnnPick.inf_bits] at h
    have h' : BitVec.ofBool (decide (max z (-z) < ⊤)) = 1#1 := h
    by_contra hn
    rw [decide_eq_false hn] at h'
    exact absurd h' (by decide)
  refine ⟨z.toReal, (EReal.coe_toReal (ne_top_of_lt (lt_of_le_of_lt (le_max_left _ _) hlt)) fun e => ?_).symm⟩
  rw [e] at hlt
  exact absurd hlt (by simp)

theorem finite (x : FVec Ideal S8x8192x3 .f32) (c : FVec Ideal S8x512x3 .f32) (h : fn (F := Ideal) x c = fun _ => 1#1) :
    (∀ i, ∃ r : ℝ, x i = r) ∧ ∀ i, ∃ r : ℝ, c i = r := by
  have both := IntOp.andi_eq_one.1 (congrFun h ix0)
  haveI : Subsingleton S_.Idx := ⟨fun _ _ => funext fun a => a.elim0⟩
  exact ⟨fun i => real_of_abs_lt _ (Host.reduce_andi_all _ _ _ _ ix0 both.1 i), fun i => real_of_abs_lt _ (Host.reduce_andi_all _ _ _ _ ix0 both.2 i)⟩

end Finite

/-! ## The kernel's array -/

section Kernel
open Cert.KnnIdeal Cert.KnnIdeal.Gen Cert.KnnIdeal.Value Cert.Proof.KnnBlock

variable (m : (ℓ : Loc nD τ sig) → Buf (Elt Ideal) ℓ) (c : Dev nD)

/-- The points and the centres as launched. -/
abbrev pts : FVec Ideal S8x8192x3 .f32 := m ((c : Thread nD τ).loc main_arg0)
abbrev ctr : FVec Ideal S8x512x3 .f32 := m ((c : Thread nD τ).loc main_arg1)

/-- The grid point of batch `b`. -/
abbrev pt (b : Fin 8) : Fin cfg0.N := ⟨b.val, b.isLt⟩

theorem idx_facts : ∀ t : Fin cfg0.N, (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (grid0.coords t 0).val = t.val ∧ (cfg0.win 2).flush t = true :=
  (by decide +kernel : ∀ t : Fin grid0.N, _)

theorem emb2 (b : Fin 8) (g : Fin 512) (j : Fin 32) : ((cfg0.win 2).blk (pt b)).view.emb (ix3 0 g j) = ix3 b g j := by
  obtain ⟨_, _, ⟨e0, e1, e2⟩, _⟩ := idx_facts (pt b)
  have e0 : win0_2.index (pt b) (0 : Fin 3) = b.val := e0
  funext a; apply Fin.ext
  match a with
  | ⟨0, _⟩ => show win0_2.index (pt b) (0 : Fin 3) * 1 + 1 * 0 = b.val; omega
  | ⟨1, _⟩ => show win0_2.index (pt b) (1 : Fin 3) * 512 + 1 * g.val = g.val; omega
  | ⟨2, _⟩ => show win0_2.index (pt b) (2 : Fin 3) * 32 + 1 * j.val = j.val; omega

theorem iblk0_at (b : Fin 8) (g : Fin 512) (r : Fin 3) : iblk m c 0 (pt b) (ix3 0 g r) = ctr m c (ix3 b g r) := by
  show V m c main_arg1 (((cfg0.win 0).blk (pt b)).view.emb (ix3 0 g r)) = _
  rw [V_main_arg1]
  refine congrArg (ctr m c) ?_
  obtain ⟨⟨e0, e1, e2⟩, _⟩ := idx_facts (pt b)
  have e0 : win0_0.index (pt b) (0 : Fin 3) = b.val := e0
  funext a; apply Fin.ext
  match a with
  | ⟨0, _⟩ => show win0_0.index (pt b) (0 : Fin 3) * 1 + 1 * 0 = b.val; omega
  | ⟨1, _⟩ => show win0_0.index (pt b) (1 : Fin 3) * 512 + 1 * g.val = g.val; omega
  | ⟨2, _⟩ => show win0_0.index (pt b) (2 : Fin 3) * 3 + 1 * r.val = r.val; omega

theorem turned_eq : V m c main_v0 = transpose S3x8x8192 [2, 0, 1] (pts m c) transposes_S8x8192x3_S3x8x8192_2_0_1 := by
  delta V hostOps0
  after_reads_simp

theorem iblk1_at (b k : Fin 8) (r : Fin 3) (n : Fin 8192) : iblk m c 1 (pt b) (ix3 r k n) = pts m c (ix3 k n r) := by
  show V m c main_v0 (((cfg0.win 1).blk (pt b)).view.emb (ix3 r k n)) = _
  rw [turned_eq]
  obtain ⟨_, ⟨e0, e1, e2⟩, _⟩ := idx_facts (pt b)
  have e : ((cfg0.win 1).blk (pt b)).view.emb (ix3 r k n) = ix3 r k n := by
    funext a; apply Fin.ext
    match a with
    | ⟨0, _⟩ => show win0_1.index (pt b) (0 : Fin 3) * 3 + 1 * r.val = r.val; omega
    | ⟨1, _⟩ => show win0_1.index (pt b) (1 : Fin 3) * 8 + 1 * k.val = k.val; omega
    | ⟨2, _⟩ => show win0_1.index (pt b) (2 : Fin 3) * 8192 + 1 * n.val = n.val; omega
  rw [e]
  exact congrArg (pts m c) (funext fun a => Fin.ext (match a with | ⟨0, _⟩ => rfl | ⟨1, _⟩ => rfl | ⟨2, _⟩ => rfl))

/-- The row of the points that the body at batch `b` reads. -/
theorem ld_at (y : FVec Ideal S3x8x8192 .f32) (b : Fin 8) (r : Fin 3) (n : Fin 8192) :
    View.ld (Val := Elt Ideal) (e' := .f32) y (Rect.unit (s := S3x8x8192) (k0_off1 (grid0.coords (pt b))) S3x1x8192.size (k0_off1_inb (grid0.coords (pt b)))) (ix3 r 0 n) = y (ix3 r b n) := by
  obtain ⟨_, _, _, e, _⟩ := idx_facts (pt b)
  refine congrArg y (funext fun a => Fin.ext ?_)
  match a with
  | ⟨0, _⟩ => exact (Nat.zero_add _).trans (Nat.one_mul r.val)
  | ⟨1, _⟩ =>
    show (BitVec.ofNat 32 (grid0.coords (pt b) 0).val).toNat + 1 * 0 = b.val
    rw [e, BitVec.toNat_ofNat]
    have := b.isLt
    show b.val % 2 ^ 32 + 1 * 0 = b.val
    omega
  | ⟨2, _⟩ => exact (Nat.zero_add _).trans (Nat.one_mul n.val)

/-- The body's distances at batch `b`. -/
abbrev rows (b : Fin 8) : FVec Ideal S512x8192 .f32 := dist0 (grid0.coords (pt b)) (iblk m c 0 (pt b)) (iblk m c 1 (pt b))

theorem rows_at (b : Fin 8) (g : Fin 512) (n : Fin 8192) :
    rows m c b (ix2 g n) = space (fun r => ctr m c (ix3 b g r)) (fun r => pts m c (ix3 b n r)) := by
  unfold rows dist0
  refine (kernel_at _ _ g n).trans ?_
  refine congrArg₂ space (funext fun r => iblk0_at m c b g r) (funext fun r => ?_)
  exact (ld_at _ b r n).trans (iblk1_at m c b b r n)

/-- The array after the run, at an index. -/
theorem array_at (b : Fin 8) (g : Fin 512) (j : Fin 32) : (dats m 0 c).arrAt 2 cfg0.N (ix3 b g j)
    = BitVec.ofNat 32 (KnnPick.pick (rows m c b) g j.val).val + BitVec.ofNat 32 b.val * 8192#32 := by
  obtain ⟨_, _, _, e, hf⟩ := idx_facts (pt b)
  have h := congrFun (blocks2 m c (pt b) hf) (ix3 0 g j)
  rw [flushed2_A, out_eq] at h
  have h' : (dats m 0 c).arrAt 2 cfg0.N (((cfg0.win 2).blk (pt b)).view.emb (ix3 0 g j)) = _ := h
  rw [emb2] at h'
  refine h'.trans ?_
  show k0_pay2 _ (ix3 0 g j) = _
  unfold k0_pay2
  refine (shapeCast_ab_1ab_apply _ _ 0 g j).trans ?_
  refine (concatenate_ofFn_unit_apply 1 _ (cols_fit _) rfl rfl (ix2 g j) j rfl (ix2 g 0) fun a ha => ?_).trans ?_
  · match a with
    | ⟨0, _⟩ => rfl
    | ⟨1, _⟩ => exact absurd rfl ha
  · refine congrArg₂ (· + ·) (KnnPick.pick_at (rows m c b) g j.val) ?_
    show BitVec.ofNat 32 (grid0.coords (pt b) 0).val * 8192#32 = _
    rw [e]

end Kernel

/-! ## The reference's array -/

section Reference
open Cert.KnnRefIdeal Cert.KnnRefIdeal.Gen Cert.Proof.Rank

variable (x : FVec Ideal S8x8192x3 .f32) (c : FVec Ideal S8x512x3 .f32)

/-- The batches' biases. -/
abbrev biases : IVec S8x512x32 32 := broadcastInDim S8x512x32 ![0, 1, 2] bcast_S8x1x1_S8x512x32_0_1_2
  (muli (broadcastInDim S8x1x1 ![] bcast_S_S8x1x1 (constantI S_ 32 8192#32)) (broadcastInDim S8x1x1 ![0] bcast_S8_S8x1x1_0 (iotaInDim S8 32 0)))

theorem biases_at (b : Fin 8) (g : Fin 512) (j : Fin 32) : biases (ix3 b g j) = BitVec.ofNat 32 b.val * 8192#32 := by
  refine (broadcastInDim_apply _ _ _ _ (ix3 b 0 0) fun a => match a with | ⟨0, _⟩ => rfl | ⟨1, _⟩ => rfl | ⟨2, _⟩ => rfl).trans ?_
  refine Eq.trans (congrArg₂ (· * ·) (broadcastInDim_scalar_apply _ _ _)
    (broadcastInDim_apply _ _ _ _ (ix1 b) fun a => match a with | ⟨0, _⟩ => rfl)) (BitVec.mul_comm _ _)

/-- The reference's result. -/
abbrev nearest : IVec S8x512x32 32 :=
  addi (Host.topK S8x512x32 2 (FloatOps.cmpfTotal .gt) (Host.negf (KnnSpace.dist x c)) sliceFits_S8x512x8192_S8x512x32).2 biases

theorem nearest_at (b : Fin 8) (g : Fin 512) (j : Fin 32) : nearest x c (ix3 b g j)
    = BitVec.ofNat 32 (sortedFrom (fun y z : Fin 8192 => decide (-KnnSpace.dist x c (ix3 b g z) < -KnnSpace.dist x c (ix3 b g y)))
        (j.castLE (by decide : 32 ≤ 8192))).val + BitVec.ofNat 32 b.val * 8192#32 :=
  congrArg₂ (· + ·) (topK_rows3 _ _ (by decide) b g j) (biases_at b g j)

end Reference

/-- The two agree. -/
theorem out_eq (m : (ℓ : Loc Cert.KnnIdeal.nD Cert.KnnIdeal.τ Cert.KnnIdeal.sig) → Buf (Elt Ideal) ℓ) (c : Dev Cert.KnnIdeal.nD)
    (h : Cert.Pre_points_finite.fn (F := Ideal) (pts m c) (ctr m c) = fun _ => 1#1) :
    nearest (pts m c) (ctr m c) = (Cert.KnnIdeal.Gen.dats m 0 c).arrAt 2 Cert.KnnIdeal.cfg0.N := by
  obtain ⟨hx, hc⟩ := finite _ _ h
  funext i
  obtain ⟨b, g, j, rfl⟩ : ∃ b g j, i = ix3 b g j := ⟨i 0, i 1, i 2, eq_ix3 i⟩
  refine (nearest_at _ _ b g j).trans (Eq.trans ?_ (array_at m c b g j).symm)
  refine congrArg (fun p : Fin 8192 => BitVec.ofNat 32 p.val + BitVec.ofNat 32 b.val * 8192#32) ?_
  refine KnnPick.sorted_pick (rows m c b) g (fun n => ?_) (fun n => -KnnSpace.dist (pts m c) (ctr m c) (ix3 b g n)) (fun n => ?_) j
  · rw [rows_at]
    exact space_lt_top _ _ (fun r => hc _) fun r => hx _
  · rw [rows_at, ref_at]

end Cert.Proof.KnnValue

end
-- ==== Proof.KnnClaims.lean ====
/-
  The claims about the nearest-neighbour call's program: its frame on the machine's words and at the extended reals, and
  its value at the extended reals.
-/
module

public import proofs.«01_k».proof.Defs
public import proofs.«01_k».proof.Proof.KnnValue
public import proofs.«01_k».proof.Proof.Gen.Knn.Frame
public import Idealize.ShloMosaic.Lib.Claim

@[expose] public section

noncomputable section

namespace Cert.Proof.KnnClaims

open Idealize.ShloMosaic Idealize.SL.Sem

theorem frame : Cert.quiescent_Knn := fun m ρ _ => Cert.Knn.Gen.frame m ρ

theorem frame_ideal : Cert.quiescent_KnnIdeal := fun m ρ _ => Cert.KnnIdeal.Gen.frame m ρ

theorem frame_ideal_pre : Cert.quiescent_KnnIdeal_pre_points_finite := fun m ρ _ => Cert.KnnIdeal.Gen.frame m ρ

theorem frame_ref : Cert.quiescent_KnnRefIdeal := fun m ρ _ =>
  (θ_run Cert.KnnRefIdeal.defs _ _).mono (fun r h => ⟨fun c => (h c).2, sem_eq_zero_of_no_sems (by decide) r.2⟩)
    (Cert.KnnRefIdeal.Value.run (F := Ideal) m ρ)

theorem frame_ref_pre : Cert.quiescent_KnnRefIdeal_pre_points_finite := fun m ρ _ => frame_ref m ρ trivial

theorem algebraic : Cert.algebraic_KnnIdeal_KnnRefIdeal_pre_points_finite := by
  intro m g m' g' hpre hagree
  refine ⟨_, Cert.KnnIdeal.Value.run_blocks m g, ?_⟩
  refine (θ_run Cert.KnnRefIdeal.defs _ _).mono (fun _ h c => ⟨(h c).1.trans ?_, (h c).2⟩) (Cert.KnnRefIdeal.Value.run (F := Ideal) m' g')
  rw [(hagree c).1, (hagree c).2]
  exact KnnValue.out_eq m c (hpre c)

end Cert.Proof.KnnClaims

end
-- ==== Proof.lean ====
module

public import proofs.«01_k».proof.Defs
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherRefIdeal
public import proofs.«01_k».proof.Proof.Gen.GatherRefIdeal.Run
public import proofs.«01_k».proof.Proof.Gen.Fps
public import proofs.«01_k».proof.Proof.Gen.Fps.Skeleton
public import proofs.«01_k».proof.Proof.Gen.Fps.Launch
public import proofs.«01_k».proof.Proof.Gen.Fps.Points
public import proofs.«01_k».proof.Proof.Gen.FpsIdeal
public import proofs.«01_k».proof.Proof.Gen.FpsIdeal.Skeleton
public import proofs.«01_k».proof.Proof.Gen.FpsIdeal.Launch
public import proofs.«01_k».proof.Proof.Gen.FpsIdeal.Points
public import proofs.«01_k».proof.Proof.Gen.FpsRefIdeal
public import proofs.«01_k».proof.Proof.Gen.FpsRefIdeal.Run
public import proofs.«01_k».proof.Proof.Gen.Pre_rows_in_points
public import proofs.«01_k».proof.Proof.Gen.Knn
public import proofs.«01_k».proof.Proof.Gen.Knn.Skeleton
public import proofs.«01_k».proof.Proof.Gen.Knn.Frame
public import proofs.«01_k».proof.Proof.Gen.KnnIdeal
public import proofs.«01_k».proof.Proof.Gen.KnnIdeal.Skeleton
public import proofs.«01_k».proof.Proof.Gen.KnnIdeal.Frame
public import proofs.«01_k».proof.Proof.Gen.KnnIdeal.Value
public import proofs.«01_k».proof.Proof.Gen.KnnRefIdeal
public import proofs.«01_k».proof.Proof.Gen.KnnRefIdeal.Run
public import proofs.«01_k».proof.Proof.Gen.Pre_points_finite
public import proofs.«01_k».proof.Proof.GatherClaims
public import proofs.«01_k».proof.Proof.FpsClaims
public import proofs.«01_k».proof.Proof.KnnClaims

@[expose] public section

noncomputable section

namespace Cert.Proof

theorem claim : Cert.Claim := ⟨Cert.Gather.Gen.facts, Cert.GatherIdeal.Gen.facts, Cert.GatherRefIdeal.Gen.facts, Cert.Fps.Gen.facts,
  Cert.FpsIdeal.Gen.facts, Cert.FpsRefIdeal.Gen.facts, Cert.Knn.Gen.facts, Cert.KnnIdeal.Gen.facts, Cert.KnnRefIdeal.Gen.facts,
  Cert.Pre_rows_in_points.Gen.facts, Cert.Pre_points_finite.Gen.facts,
  GatherClaims.frame, GatherClaims.frame_ideal, GatherClaims.frame_ref, GatherClaims.frame_ref_pre,
  FpsClaims.frame, FpsClaims.frame_ideal, FpsClaims.frame_ref,
  KnnClaims.frame, KnnClaims.frame_ideal, KnnClaims.frame_ideal_pre, KnnClaims.frame_ref, KnnClaims.frame_ref_pre,
  trivial, GatherClaims.algebraic, trivial, FpsClaims.algebraic, trivial, KnnClaims.algebraic⟩

end Cert.Proof

end
